-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v53_0)) (v1 : (c : Dev Cert.Kernel3Ideal.nD) → Buf (Elt Ideal) ((c.tc : Thread Cert.Kernel3Ideal.nD Cert.Kernel3Ideal.τ).loc Cert.Kernel3Ideal.main_v53_1)) (v2 : (c : Dev Cert.Kernel3Ideal.nD) → Buf (Elt Ideal) ((c.tc : Thread Cert.Kernel3Ideal.nD Cert.Kernel3Ideal.τ).loc Cert.Kernel3Ideal.main_v53_5)) (v3 : (c : Dev Cert.Kernel3Ideal.nD) → Buf (Elt Ideal) ((c.tc : Thread Cert.Kernel3Ideal.nD Cert.Kernel3Ideal.τ).loc Cert.Kernel3Ideal.main_v53_8)) (v4 : (c : Dev Cert.Kernel3Ideal.nD) → Buf (Elt Ideal) ((c.tc : Thread Cert.Kernel3Ideal.nD Cert.Kernel3Ideal.τ).loc Cert.Kernel3Ideal.main_v53_9)) (v5 : (c : Dev Cert.Kernel3Ideal.nD) → Buf (Elt Ideal) ((c.tc : Thread Cert.Kernel3Ideal.nD Cert.Kernel3Ideal.τ).loc Cert.Kernel3Ideal.main_v53_12)) (v6 : (c : Dev Cert.Kernel3Ideal.nD) → Buf (Elt Ideal) ((c.tc : Thread Cert.Kernel3Ideal.nD Cert.Kernel3Ideal.τ).loc Cert.Kernel3Ideal.main_v53_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53_0) = v0 c
          ∧ r.2.mem ((c.tc : Thread Cert.Kernel3Ideal.nD Cert.Kernel3Ideal.τ).loc Cert.Kernel3Ideal.main_v53_1) = v1 c
          ∧ r.2.mem ((c.tc : Thread Cert.Kernel3Ideal.nD Cert.Kernel3Ideal.τ).loc Cert.Kernel3Ideal.main_v53_5) = v2 c
          ∧ r.2.mem ((c.tc : Thread Cert.Kernel3Ideal.nD Cert.Kernel3Ideal.τ).loc Cert.Kernel3Ideal.main_v53_8) = v3 c
          ∧ r.2.mem ((c.tc : Thread Cert.Kernel3Ideal.nD Cert.Kernel3Ideal.τ).loc Cert.Kernel3Ideal.main_v53_9) = v4 c
          ∧ r.2.mem ((c.tc : Thread Cert.Kernel3Ideal.nD Cert.Kernel3Ideal.τ).loc Cert.Kernel3Ideal.main_v53_12) = v5 c
          ∧ r.2.mem ((c.tc : Thread Cert.Kernel3Ideal.nD Cert.Kernel3Ideal.τ).loc Cert.Kernel3Ideal.main_v53_13) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v102) = v1 c
          ∧ r.2.mem ((c.tc : Thread Cert.Reference3Ideal.nD Cert.Reference3Ideal.τ).loc Cert.Reference3Ideal.main_v103) = v2 c
          ∧ r.2.mem ((c.tc : Thread Cert.Reference3Ideal.nD Cert.Reference3Ideal.τ).loc Cert.Reference3Ideal.main_v105) = v3 c
          ∧ r.2.mem ((c.tc : Thread Cert.Reference3Ideal.nD Cert.Reference3Ideal.τ).loc Cert.Reference3Ideal.main_v106) = v4 c
          ∧ r.2.mem ((c.tc : Thread Cert.Reference3Ideal.nD Cert.Reference3Ideal.τ).loc Cert.Reference3Ideal.main_v107) = v5 c
          ∧ r.2.mem ((c.tc : Thread Cert.Reference3Ideal.nD Cert.Reference3Ideal.τ).loc Cert.Reference3Ideal.main_v108) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x512 : Shape := ⟨3, ![8, 4096, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S8x8x512 : Shape := ⟨3, ![8, 8, 512]⟩
abbrev S8x1x512 : Shape := ⟨3, ![8, 1, 512]⟩
abbrev S1x256x512 : Shape := ⟨3, ![1, 256, 512]⟩
abbrev S1x8x512 : Shape := ⟨3, ![1, 8, 512]⟩
abbrev S1x1x512 : Shape := ⟨3, ![1, 1, 512]⟩
abbrev S8x512 : Shape := ⟨2, ![8, 512]⟩
abbrev S256x512 : Shape := ⟨2, ![256, 512]⟩
abbrev S264x512 : Shape := ⟨2, ![264, 512]⟩
abbrev S256x1 : Shape := ⟨2, ![256, 1]⟩

abbrev nBuf : Space → Nat
  | .hbm => 47
  | .vmem => 23
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S8x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S1x512, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S8x1x8x1, .f32⟩
  | .hbm, ⟨33, _⟩ => ⟨S8x64x1x64, .f32⟩
  | .hbm, ⟨34, _⟩ => ⟨S8x64x8x64, .f32⟩
  | .hbm, ⟨35, _⟩ => ⟨S8x64x8x64, .f32⟩
  | .hbm, ⟨36, _⟩ => ⟨S8x64x8x64, .f32⟩
  | .hbm, ⟨37, _⟩ => ⟨S512x512, .f32⟩
  | .hbm, ⟨38, _⟩ => ⟨S512x512, .bf16⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S8x8x512, .f32⟩
  | .hbm, ⟨43, _⟩ => ⟨S_, .f32⟩
  | .hbm, ⟨44, _⟩ => ⟨S8x1x512, .f32⟩
  | .hbm, ⟨45, _⟩ => ⟨S8x4096x512, .bf16⟩
  | .hbm, ⟨46, _⟩ => ⟨S8x1x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x8x512, .f32⟩
  | .local _ .vmem, ⟨12, _⟩ => ⟨S1x8x512, .f32⟩
  | .local _ .vmem, ⟨13, _⟩ => ⟨S1x1x512, .f32⟩
  | .local _ .vmem, ⟨14, _⟩ => ⟨S1x1x512, .f32⟩
  | .local _ .vmem, ⟨15, _⟩ => ⟨S1x256x512, .bf16⟩
  | .local _ .vmem, ⟨16, _⟩ => ⟨S1x256x512, .bf16⟩
  | .local _ .vmem, ⟨17, _⟩ => ⟨S1x1x512, .f32⟩
  | .local _ .vmem, ⟨18, _⟩ => ⟨S1x1x512, .f32⟩
  | .local _ .vmem, ⟨19, _⟩ => ⟨S8x512, .f32⟩
  | .local _ .vmem, ⟨20, _⟩ => ⟨S8x512, .f32⟩
  | .local _ .vmem, ⟨21, _⟩ => ⟨S256x512, .f32⟩
  | .local _ .vmem, ⟨22, _⟩ => ⟨S256x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_57 : BitVec 32 := 0#32
  let c32_i32 : BitVec 32 := 32#32
  let v159 : BitVec 32 := Scalar.addi c0_i32_57 c32_i32
  let c1_i32_58 : BitVec 32 := 1#32
  ⟨c0_i32_57, v159, c1_i32_58⟩
def k0_mult1 (k0_t1 : Fin k0_t1_loop.trips) : BitVec 32 :=
  let c0_i32_57 : BitVec 32 := 0#32
  let c1_i32_58 : BitVec 32 := 1#32
  let arg19 : BitVec 32 := Scf.iv c0_i32_57 c1_i32_58 k0_t1
  let c8_i32_77 : BitVec 32 := 8#32
  let v189 : BitVec 32 := Scalar.muli arg19 c8_i32_77
  v189
def k0_off1 (k0_t1 : Fin k0_t1_loop.trips) : Fin 2 → Nat :=
  let c0_i32_57 : BitVec 32 := 0#32
  let c1_i32_58 : BitVec 32 := 1#32
  let arg19 : BitVec 32 := Scf.iv c0_i32_57 c1_i32_58 k0_t1
  let c8_i32_77 : BitVec 32 := 8#32
  let v189 : BitVec 32 := Scalar.muli arg19 c8_i32_77
  let v190 : BitVec 32 := v189
  let v191 : Index := Scalar.indexCast v190
  let c0_78 : Index := 0#32
  ![v191.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x4096x512 : Shape := ⟨3, ![8, 4096, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S8x3x512 : Shape := ⟨3, ![8, 3, 512]⟩
abbrev S8x512 : Shape := ⟨2, ![8, 512]⟩
abbrev S8x4099x512 : Shape := ⟨3, ![8, 4099, 512]⟩
abbrev S1x512 : Shape := ⟨2, ![1, 512]⟩
abbrev S1x1x512 : Shape := ⟨3, ![1, 1, 512]⟩
abbrev S8x4096x8x64 : Shape := ⟨4, ![8, 4096, 8, 64]⟩
abbrev S8x64x8x4096 : Shape := ⟨4, ![8, 64, 8, 4096]⟩
abbrev S4096x8x512 : Shape := ⟨3, ![4096, 8, 512]⟩
abbrev S1x8x512 : Shape := ⟨3, ![1, 8, 512]⟩
abbrev S8x1x512 : Shape := ⟨3, ![8, 1, 512]⟩

abbrev nBuf : Space → Nat
  | .hbm => 152
  | .vmem => 0
  | .smem => 0
  | _ => 0

abbrev hbmTy0_0 (i : Nat) : BufTy := match i % 128 with
  | 0 => ⟨S8x4096x512, .f32⟩
  | 1 => ⟨S8x4096x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S_, .f32⟩
  | 10 => ⟨S8x3x512, .f32⟩
  | 11 => ⟨S_, .f32⟩
  | 12 => ⟨S8x512, .f32⟩
  | 13 => ⟨S8x4099x512, .f32⟩
  | 14 => ⟨S1x512, .f32⟩
  | 15 => ⟨S512, .f32⟩
  | 16 => ⟨S8x4096x512, .f32⟩
  | 17 => ⟨S1x1x512, .f32⟩
  | 18 => ⟨S8x4096x512, .f32⟩
  | 19 => ⟨S8x4096x512, .f32⟩
  | 20 => ⟨S1x1x512, .f32⟩
  | 21 => ⟨S8x4096x512, .f32⟩
  | 22 => ⟨S8x4096x512, .f32⟩
  | 23 => ⟨S1x512, .f32⟩
  | 24 => ⟨S512, .f32⟩
  | 25 => ⟨S8x4096x512, .f32⟩
  | 26 => ⟨S1x1x512, .f32⟩
  | 27 => ⟨S8x4096x512, .f32⟩
  | 28 => ⟨S8x4096x512, .f32⟩
  | 29 => ⟨S8x4096x512, .f32⟩
  | 30 => ⟨S1x512, .f32⟩
  | 31 => ⟨S512, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S1x512, .f32⟩
  | 38 => ⟨S512, .f32⟩
  | 39 => ⟨S8x4096x512, .f32⟩
  | 40 => ⟨S1x1x512, .f32⟩
  | 41 => ⟨S8x4096x512, .f32⟩
  | 42 => ⟨S8x4096x512, .f32⟩
  | 43 => ⟨S8x4096x512, .f32⟩
  | 44 => ⟨S8x4096x8x64, .f32⟩
  | 45 => ⟨S8x64x8x4096, .f32⟩
  | 46 => ⟨S8x4096x8x64, .f32⟩
  | 47 => ⟨S8x4096x512, .f32⟩
  | 48 => ⟨S1x1x512, .f32⟩
  | 49 => ⟨S8x4096x512, .f32⟩
  | 50 => ⟨S8x4096x512, .f32⟩
  | 51 => ⟨S8x4096x512, .f32⟩
  | 52 => ⟨S8x4096x512, .f32⟩
  | 53 => ⟨S_, .f32⟩
  | 54 => ⟨S8x4096x512, .f32⟩
  | 55 => ⟨S8x4096x512, .f32⟩
  | 56 => ⟨S_, .f32⟩
  | 57 => ⟨S8x4096x512, .f32⟩
  | 58 => ⟨S8x4096x512, .f32⟩
  | 59 => ⟨S8x64x8x4096, .f32⟩
  | 60 => ⟨S8x4096x8x64, .f32⟩
  | 61 => ⟨S8x4096x512, .f32⟩
  | 62 => ⟨S1x1x512, .f32⟩
  | 63 => ⟨S8x4096x512, .f32⟩
  | 64 => ⟨S8x4096x512, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S_, .f32⟩
  | 71 => ⟨S8x4096x512, .f32⟩
  | 72 => ⟨S8x4096x512, .f32⟩
  | 73 => ⟨S_, .f32⟩
  | 74 => ⟨S8x4096x512, .f32⟩
  | 75 => ⟨S8x4096x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S1x1x512, .f32⟩
  | 92 => ⟨S8x4096x512, .f32⟩
  | 93 => ⟨S8x4096x512, .f32⟩
  | 94 => ⟨S8x4096x512, .f32⟩
  | 95 => ⟨S_, .f32⟩
  | 96 => ⟨S8x4096x512, .f32⟩
  | 97 => ⟨S8x4096x512, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .f32⟩
  | 103 => ⟨S4096x8x512, .f32⟩
  | 104 => ⟨S4096x8x512, .f32⟩
  | 105 => ⟨S_, .f32⟩
  | 106 => ⟨S4096x8x512, .f32⟩
  | 107 => ⟨S_, .i32⟩
  | 108 => ⟨S4096x8x512, .f32⟩
  | 109 => ⟨S4096x8x512, .f32⟩
  | 110 => ⟨S_, .i32⟩
  | 111 => ⟨S8x512, .f32⟩
  | 112 => ⟨S4096x8x512, .f32⟩
  | 113 => ⟨S_, .i32⟩
  | 114 => ⟨S_, .i1⟩
  | 115 => ⟨S_, .i32⟩
  | 116 => ⟨S_, .i32⟩
  | 117 => ⟨S1x8x512, .f32⟩
  | 118 => ⟨S8x512, .f32⟩
  | 119 => ⟨S_, .i32⟩
  | 120 => ⟨S_, .i32⟩
  | 121 => ⟨S1x8x512, .f32⟩
  | 122 => ⟨S8x512, .f32⟩
  | 123 => ⟨S8x512, .f32⟩
  | 124 => ⟨S8x512, .f32⟩
  | 125 => ⟨S1x8x512, .f32⟩
  | 126 => ⟨S_, .i32⟩
  | 127 => ⟨S_, .i32⟩
  | _ => ⟨S8x4096x512, .f32⟩

abbrev hbmTy0_1 (i : Nat) : BufTy := match i % 128 with
  | 0 => ⟨S4096x8x512, .f32⟩
  | 1 => ⟨S_, .i32⟩
  | 2 => ⟨S_, .i32⟩
  | 3 => ⟨S8x4096x512, .f32⟩
  | 4 => ⟨S8x4096x512, .f32⟩
  | 5 => ⟨S8x4096x512, .f32⟩
  | 6 => ⟨S_, .f32⟩
  | 7 => ⟨S8x4096x512, .f32⟩
  | 8 => ⟨S8x4096x512, .f32⟩
  | 9 => ⟨S8x4096x512, .f32⟩
  | 10 => ⟨S_, .f32⟩
  | 11 => ⟨S8x4096x512, .f32⟩
  | 12 => ⟨S8x4096x512, .f32⟩
  | 13 => ⟨S8x4096x512, .f32⟩
  | 14 => ⟨S_, .f32⟩
  | 15 => ⟨S8x4096x512, .f32⟩
  | 16 => ⟨S8x4096x512, .f32⟩
  | 17 => ⟨S_, .f32⟩
  | 18 => ⟨S8x4096x512, .f32⟩
  | 19 => ⟨S8x4096x512, .f32⟩
  | 20 => ⟨S8x4096x512, .f32⟩
  | 21 => ⟨S8x4096x512, .f32⟩
  | 22 => ⟨S8x4096x512, .bf16⟩
  | 23 => ⟨S8x1x512, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_7 : Ref sig .tc := ⟨.hbm, 105, rfl⟩
abbrev main_v75 : Ref sig .tc := ⟨.hbm, 106, rfl⟩
abbrev main_c : Ref sig .tc := ⟨.hbm, 107, rfl⟩
abbrev main_v76_0 : Ref sig .tc := ⟨.hbm, 108, rfl⟩
abbrev main_v76_1 : Ref sig .tc := ⟨.hbm, 109, rfl⟩
abbrev main_v76_2 : Ref sig .tc := ⟨.hbm, 110, rfl⟩
abbrev main_v76_3 : Ref sig .tc := ⟨.hbm, 111, rfl⟩
abbrev main_v76_4 : Ref sig .tc := ⟨.hbm, 112, rfl⟩
abbrev main_while0c_c_16 : Ref sig .tc := ⟨.hbm, 113, rfl⟩
abbrev main_while0c_v94 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_v0 : Ref sig .tc := ⟨.hbm, 117, rfl⟩
abbrev main_while0b_v94 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_v98 : Ref sig .tc := ⟨.hbm, 128, rfl⟩
abbrev main_while0b_c_16 : Ref sig .tc := ⟨.hbm, 129, rfl⟩
abbrev main_while0b_v99 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_8 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_9 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_10 : Ref sig .tc := ⟨.hbm, 142, rfl⟩
abbrev main_v86 : Ref sig .tc := ⟨.hbm, 143, rfl⟩
abbrev main_v87 : Ref sig .tc := ⟨.hbm, 144, rfl⟩
abbrev main_cst_11 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 25
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S32768x1024, .f32⟩
  | .hbm, ⟨20, _⟩ => ⟨S32768x512, .bf16⟩
  | .hbm, ⟨21, _⟩ => ⟨S32768x512, .bf16⟩
  | .hbm, ⟨22, _⟩ => ⟨S32768x1024, .f32⟩
  | .hbm, ⟨23, _⟩ => ⟨S32768x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x4096x512, .f32⟩
  | .hbm, ⟨13, _⟩ => ⟨S8x4096x512, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x1024, .f32⟩
  | .hbm, ⟨66, _⟩ => ⟨S8x4096x1024, .f32⟩
  | .hbm, ⟨67, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x5192 : Shape := ⟨2, ![1024, 5192]⟩
abbrev S64 : Shape := ⟨1, ![64]⟩
abbrev S1024x72 : Shape := ⟨2, ![1024, 72]⟩
abbrev S_ : Shape := ⟨0, ![]⟩
abbrev S1024x128 : Shape := ⟨2, ![1024, 128]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024x3072 : Shape := ⟨2, ![1024, 3072]⟩
abbrev S1024x2048 : Shape := ⟨2, ![1024, 2048]⟩
abbrev S1x64 : Shape := ⟨2, ![1, 64]⟩
abbrev S128 : Shape := ⟨1, ![128]⟩
abbrev S1x128 : Shape := ⟨2, ![1, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x1024 : Shape := ⟨2, ![32768, 1024]⟩
abbrev S32768x512 : Shape := ⟨2, ![32768, 512]⟩
abbrev S8x512x4096 : Shape := ⟨3, ![8, 512, 4096]⟩
abbrev S8x16x512x256 : Shape := ⟨4, ![8, 16, 512, 256]⟩
abbrev S8x64x4096 : Shape := ⟨3, ![8, 64, 4096]⟩
abbrev S32768x128 : Shape := ⟨2, ![32768, 128]⟩
abbrev S256x1024 : Shape := ⟨2, ![256, 1024]⟩
abbrev S256x128 : Shape := ⟨2, ![256, 128]⟩
abbrev S256x512 : Shape := ⟨2, ![256, 512]⟩
abbrev S1x512x256 : Shape := ⟨3, ![1, 512, 256]⟩
abbrev S1x1x512x256 : Shape := ⟨4, ![1, 1, 512, 256]⟩
abbrev S1x64x256 : Shape := ⟨3, ![1, 64, 256]⟩
abbrev S256 : Shape := ⟨1, ![256]⟩
abbrev S256x1 : Shape := ⟨2, ![256, 1]⟩
abbrev S1024x512 : Shape := ⟨2, ![1024, 512]⟩
abbrev S512x256 : Shape := ⟨2, ![512, 256]⟩
abbrev S128x256 : Shape := ⟨2, ![128, 256]⟩
abbrev S64x256 : Shape := ⟨2, ![64, 256]⟩
abbrev S1024x1024 : Shape := ⟨2, ![1024, 1024]⟩

abbrev nBuf : Space → Nat
  | .hbm => 84
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5192, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1024x72, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S8x64, .i32⟩
  | .hbm, ⟨11, _⟩ => ⟨S512, .i32⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S_, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S1x1024, .f32⟩
  | .hbm, ⟨24, _⟩ => ⟨S1024x3072, .f32⟩
  | .hbm, ⟨25, _⟩ => ⟨S1024x3072, .bf16⟩
  | .hbm, ⟨26, _⟩ => ⟨S1024x128, .bf16⟩
  | .hbm, ⟨27, _⟩ => ⟨S1024x2048, .f32⟩
  | .hbm, ⟨28, _⟩ => ⟨S1024x2048, .bf16⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S1x512, .f32⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S4096, .i32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S4096, .f32⟩
  | .hbm, ⟨53, _⟩ => ⟨S4096x1, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x64, .f32⟩
  | .hbm, ⟨61, _⟩ => ⟨S4096x32, .f32⟩
  | .hbm, ⟨62, _⟩ => ⟨S4096x64, .f32⟩
  | .hbm, ⟨63, _⟩ => ⟨S1x4096x1x64, .f32⟩
  | .hbm, ⟨64, _⟩ => ⟨S1x4096x2x64, .f32⟩
  | .hbm, ⟨65, _⟩ => ⟨S4096x128, .f32⟩
  | .hbm, ⟨66, _⟩ => ⟨S1x4096x1x64, .f32⟩
  | .hbm, ⟨67, _⟩ => ⟨S1x4096x2x64, .f32⟩
  | .hbm, ⟨68, _⟩ => ⟨S4096x128, .f32⟩
  | .hbm, ⟨69, _⟩ => ⟨S32768x1024, .f32⟩
  | .hbm, ⟨70, _⟩ => ⟨S32768x512, .f32⟩
  | .hbm, ⟨71, _⟩ => ⟨S32768x512, .f32⟩
  | .hbm, ⟨72, _⟩ => ⟨S32768x512, .bf16⟩
  | .hbm, ⟨73, _⟩ => ⟨S8x512x4096, .f32⟩
  | .hbm, ⟨74, _⟩ => ⟨S32768x512, .bf16⟩
  | .hbm, ⟨75, _⟩ => ⟨S8x512x4096, .f32⟩
  | .hbm, ⟨76, _⟩ => ⟨S32768x512, .bf16⟩
  | .hbm, ⟨77, _⟩ => ⟨S8x16x512x256, .bf16⟩
  | .hbm, ⟨78, _⟩ => ⟨S32768x512, .bf16⟩
  | .hbm, ⟨79, _⟩ => ⟨S8x64x4096, .f32⟩
  | .hbm, ⟨80, _⟩ => ⟨S32768x128, .bf16⟩
  | .hbm, ⟨81, _⟩ => ⟨S32768x128, .f32⟩
  | .hbm, ⟨82, _⟩ => ⟨S32768x1024, .f32⟩
  | .hbm, ⟨83, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1024x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S1x512, .f32⟩
  | .local _ .vmem, ⟨12, _⟩ => ⟨S1x128, .f32⟩
  | .local _ .vmem, ⟨13, _⟩ => ⟨S512x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S1x512x256, .f32⟩
  | .local _ .vmem, ⟨21, _⟩ => ⟨S1x512x256, .f32⟩
  | .local _ .vmem, ⟨22, _⟩ => ⟨S256x512, .bf16⟩
  | .local _ .vmem, ⟨23, _⟩ => ⟨S256x512, .bf16⟩
  | .local _ .vmem, ⟨24, _⟩ => ⟨S1x512x256, .f32⟩
  | .local _ .vmem, ⟨25, _⟩ => ⟨S1x512x256, .f32⟩
  | .local _ .vmem, ⟨26, _⟩ => ⟨S256x512, .bf16⟩
  | .local _ .vmem, ⟨27, _⟩ => ⟨S256x512, .bf16⟩
  | .local _ .vmem, ⟨28, _⟩ => ⟨S1x1x512x256, .bf16⟩
  | .local _ .vmem, ⟨29, _⟩ => ⟨S1x1x512x256, .bf16⟩
  | .local _ .vmem, ⟨30, _⟩ => ⟨S256x512, .bf16⟩
  | .local _ .vmem, ⟨31, _⟩ => ⟨S256x512, .bf16⟩
  | .local _ .vmem, ⟨32, _⟩ => ⟨S1x64x256, .f32⟩
  | .local _ .vmem, ⟨33, _⟩ => ⟨S1x64x256, .f32⟩
  | .local _ .vmem, ⟨34, _⟩ => ⟨S256x128, .bf16⟩
  | .local _ .vmem, ⟨35, _⟩ => ⟨S256x128, .bf16⟩
  | .local _ .vmem, ⟨36, _⟩ => ⟨S256x128, .f32⟩
  | .local _ .vmem, ⟨37, _⟩ => ⟨S256x128, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v53_5 : Ref sig .tc := ⟨.hbm, 75, rfl⟩
abbrev main_v53_6 : Ref sig .tc := ⟨.hbm, 76, rfl⟩
abbrev main_v53_7 : Ref sig .tc := ⟨.hbm, 77, rfl⟩
abbrev main_v53_8 : Ref sig .tc := ⟨.hbm, 78, rfl⟩
abbrev main_v53_9 : Ref sig .tc := ⟨.hbm, 79, rfl⟩
abbrev main_v53_10 : Ref sig .tc := ⟨.hbm, 80, rfl⟩
abbrev main_v53_11 : Ref sig .tc := ⟨.hbm, 81, rfl⟩
abbrev main_v53_12 : Ref sig .tc := ⟨.hbm, 82, rfl⟩
abbrev main_v53_13 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3Ideal.lean ====
abbrev S8x4096x1024 : Shape := ⟨3, ![8, 4096, 1024]⟩
abbrev S1024 : Shape := ⟨1, ![1024]⟩
abbrev S1024x5192 : Shape := ⟨2, ![1024, 5192]⟩
abbrev S64 : Shape := ⟨1, ![64]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5192 : Shape := ⟨3, ![8, 4096, 5192]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S1x1x64 : Shape := ⟨3, ![1, 1, 64]⟩
abbrev S8x4096x1x64 : Shape := ⟨4, ![8, 4096, 1, 64]⟩
abbrev S8x4096x1x32 : Shape := ⟨4, ![8, 4096, 1, 32]⟩
abbrev S32768x512 : Shape := ⟨2, ![32768, 512]⟩
abbrev S8x512x4096 : Shape := ⟨3, ![8, 512, 4096]⟩
abbrev S8x64x4096 : Shape := ⟨3, ![8, 64, 4096]⟩
abbrev S32768x1024 : Shape := ⟨2, ![32768, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5192, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5192, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x64, .f32⟩
  | .hbm, ⟨31, _⟩ => ⟨S8x4096x8, .f32⟩
  | .hbm, ⟨32, _⟩ => ⟨S8x4096x1024, .f32⟩
  | .hbm, ⟨33, _⟩ => ⟨S8x4096x1024, .f32⟩
  | .hbm, ⟨34, _⟩ => ⟨S8x4096x8x64, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S4096x32, .f32⟩
  | .hbm, ⟨54, _⟩ => ⟨S1x4096x1x32, .f32⟩
  | .hbm, ⟨55, _⟩ => ⟨S8x4096x8x32, .f32⟩
  | .hbm, ⟨56, _⟩ => ⟨S8x4096x8x32, .f32⟩
  | .hbm, ⟨57, _⟩ => ⟨S8x4096x8x32, .f32⟩
  | .hbm, ⟨58, _⟩ => ⟨S8x4096x8x32, .f32⟩
  | .hbm, ⟨59, _⟩ => ⟨S8x4096x8x32, .f32⟩
  | .hbm, ⟨60, _⟩ => ⟨S8x4096x8x32, .f32⟩
  | .hbm, ⟨61, _⟩ => ⟨S8x4096x8x32, .f32⟩
  | .hbm, ⟨62, _⟩ => ⟨S8x4096x8x32, .f32⟩
  | .hbm, ⟨63, _⟩ => ⟨S8x4096x8x32, .f32⟩
  | .hbm, ⟨64, _⟩ => ⟨S8x4096x8x32, .f32⟩
  | .hbm, ⟨65, _⟩ => ⟨S8x4096x8x32, .f32⟩
  | .hbm, ⟨66, _⟩ => ⟨S8x4096x8x32, .f32⟩
  | .hbm, ⟨67, _⟩ => ⟨S8x4096x8x64, .f32⟩
  | .hbm, ⟨68, _⟩ => ⟨S8x4096x64, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x64, .f32⟩
  | .hbm, ⟨80, _⟩ => ⟨S8x4096x64, .f32⟩
  | .hbm, ⟨81, _⟩ => ⟨S1x1x64, .f32⟩
  | .hbm, ⟨82, _⟩ => ⟨S8x4096x64, .f32⟩
  | .hbm, ⟨83, _⟩ => ⟨S8x4096x64, .f32⟩
  | .hbm, ⟨84, _⟩ => ⟨S8x4096x1x64, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S_, .f32⟩
  | .hbm, ⟨93, _⟩ => ⟨S32, .f32⟩
  | .hbm, ⟨94, _⟩ => ⟨S32, .f32⟩
  | .hbm, ⟨95, _⟩ => ⟨S4096, .f32⟩
  | .hbm, ⟨96, _⟩ => ⟨S4096x1, .f32⟩
  | .hbm, ⟨97, _⟩ => ⟨S1x32, .f32⟩
  | .hbm, ⟨98, _⟩ => ⟨S4096x32, .f32⟩
  | .hbm, ⟨99, _⟩ => ⟨S4096x32, .f32⟩
  | .hbm, ⟨100, _⟩ => ⟨S4096x32, .f32⟩
  | .hbm, ⟨101, _⟩ => ⟨S4096x32, .f32⟩
  | .hbm, ⟨102, _⟩ => ⟨S1x4096x1x32, .f32⟩
  | .hbm, ⟨103, _⟩ => ⟨S4096x32, .f32⟩
  | .hbm, ⟨104, _⟩ => ⟨S1x4096x1x32, .f32⟩
  | .hbm, ⟨105, _⟩ => ⟨S8x4096x1x32, .f32⟩
  | .hbm, ⟨106, _⟩ => ⟨S8x4096x1x32, .f32⟩
  | .hbm, ⟨107, _⟩ => ⟨S8x4096x1x32, .f32⟩
  | .hbm, ⟨108, _⟩ => ⟨S8x4096x1x32, .f32⟩
  | .hbm, ⟨109, _⟩ => ⟨S8x4096x1x32, .f32⟩
  | .hbm, ⟨110, _⟩ => ⟨S8x4096x1x32, .f32⟩
  | .hbm, ⟨111, _⟩ => ⟨S8x4096x1x32, .f32⟩
  | .hbm, ⟨112, _⟩ => ⟨S8x4096x1x32, .f32⟩
  | .hbm, ⟨113, _⟩ => ⟨S8x4096x1x32, .f32⟩
  | .hbm, ⟨114, _⟩ => ⟨S8x4096x1x32, .f32⟩
  | .hbm, ⟨115, _⟩ => ⟨S8x4096x1x32, .f32⟩
  | .hbm, ⟨116, _⟩ => ⟨S8x4096x1x32, .f32⟩
  | .hbm, ⟨117, _⟩ => ⟨S8x4096x1x64, .f32⟩
  | .hbm, ⟨118, _⟩ => ⟨S8x4096x64, .f32⟩
  | .hbm, ⟨119, _⟩ => ⟨S32768x512, .f32⟩
  | .hbm, ⟨120, _⟩ => ⟨S32768x512, .f32⟩
  | .hbm, ⟨121, _⟩ => ⟨S8x512x4096, .f32⟩
  | .hbm, ⟨122, _⟩ => ⟨S32768x512, .f32⟩
  | .hbm, ⟨123, _⟩ => ⟨S32768x512, .bf16⟩
  | .hbm, ⟨124, _⟩ => ⟨S8x64x4096, .f32⟩
  | .hbm, ⟨125, _⟩ => ⟨S32768x1024, .f32⟩
  | .hbm, ⟨126, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.WritesUnit
public import Idealize.ShloMosaic.Lib.ValueIdxCore

/-! The kernel's body at one grid point, as values: what it leaves in each buffer, as functions of what the windows
and the carried buffers hold. The sequential loop over the 32 groups of eight rows goes by an explicit state. -/

@[expose] public section

set_option maxRecDepth 16384

noncomputable section

namespace Cert.KernelIdeal.Seq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ (UR sig nD τ) ℕ

/-! ## The chunk's values -/

/-- Rows `8k … 8k+7` of a chunk's 256 rows. -/
def rowsAt (v : Vec F S256x512 .f32) (k : ℕ) : Vec F S8x512 .f32 :=
  fun y => v (ix2 ⟨(8 * k + (y 0).val) % 256, Nat.mod_lt _ (by decide)⟩ (y 1))

/-- The carry before group `k`: the last row of what the group before left, on all eight rows; `H` before the first. -/
def carry (A B : Vec F S256x512 .f32) (H : Vec F S8x512 .f32) : ℕ → Vec F S8x512 .f32
  | 0 => H
  | k + 1 => k0_pay26 (carry A B H k) (rowsAt A k) (rowsAt B k)

/-- The chunk before group `k`: the groups before it hold the states, the others still `B`. -/
def filled (A B : Vec F S256x512 .f32) (H : Vec F S8x512 .f32) (k : ℕ) : Vec F S256x512 .f32 :=
  fun y => if (y 0).val / 8 < k then
      k0_pay25 (carry A B H ((y 0).val / 8)) (rowsAt A ((y 0).val / 8)) (rowsAt B ((y 0).val / 8)) (ix2 ⟨(y 0).val % 8, Nat.mod_lt _ (by decide)⟩ (y 1))
    else B y

section Values
variable (x : Vec F S1x256x512 .f32) (cw : Vec F S4x512 .f32) (cb : Vec F S1x512 .f32) (wr : Vec F S512x512 .bf16) (br : Vec F S1x512 .f32)
  (wi : Vec F S512x512 .bf16) (bi : Vec F S1x512 .f32) (lam : Vec F S1x512 .f32) (P H : Vec F S8x512 .f32)

/-- The chunk's `log a`. -/
def logOf : FVec F S256x512 .f32 := k0_pay12 (k0_pay9 x P cw cb wr) br lam
/-- The chunk's input terms before the scan. -/
def termOf : FVec F S256x512 .f32 :=
  k0_pay16 (k0_pay6 x P cw cb) (k0_pay10 (k0_pay8 x P cw cb) wi bi) (logOf x cw cb wr br lam P) (k0_pay13 (k0_pay9 x P cw cb wr) br lam)
/-- The multipliers after the scan within each group of eight rows. -/
def mulOf : Vec F S256x512 .f32 :=
  k0_pay22 k0_pay14 (k0_pay17 (logOf x cw cb wr br lam P)) k0_pay18 (k0_pay19 (logOf x cw cb wr br lam P)) (Scalar.ofBits .f32 0x3F800000#32)
/-- The input terms after the scan within each group of eight rows. -/
def addOf : Vec F S256x512 .f32 :=
  k0_pay23 k0_pay14 (termOf x cw cb wr br wi bi lam P) (k0_pay17 (logOf x cw cb wr br lam P)) k0_pay18 (k0_pay19 (logOf x cw cb wr br lam P)) (Scalar.ofBits .f32 0x3F800000#32)
/-- The carry after the chunk. -/
def endOf : Vec F S8x512 .f32 := carry (mulOf x cw cb wr br lam P) (addOf x cw cb wr br wi bi lam P) H 32
/-- The state kept for the next chunk. -/
def stateOf : Vec F S8x512 .f32 := k0_pay27 (endOf x cw cb wr br wi bi lam P H)
/-- The last state, as the second result's block. -/
def lastOf : Vec F S1x1x512 .f32 := k0_pay2 (endOf x cw cb wr br wi bi lam P H)
/-- The first result's block. -/
def outOf (g : Vec F S1x256x512 .f32) : Vec F S1x256x512 .bf16 :=
  k0_pay1 (filled (mulOf x cw cb wr br lam P) (addOf x cw cb wr br wi bi lam P) H 32) g
end Values

/-! ## The loop -/

theorem trips_eq : k0_t1_loop.trips = 32 := by decide

section Loop
variable (arg17 arg18 : Memref sig .tc .vmem S256x512 .f32) (X : BufTy.Contents (Elt F) arg17.view.ty) (G : BufTy.Contents (Elt F) arg18.view.ty) (H : Vec F S8x512 .f32)

/-- The carry before trip `k` and what the trips before stored (last first), from the contents at the loop's entry. -/
def state : ℕ → Vec F S8x512 .f32 × List (View.Piece (Elt F) S256x512 .f32)
  | 0 => (H, [])
  | k + 1 => if h : k < k0_t1_loop.trips then
      let R := Rect.unit (s := S256x512) (k0_off1 ⟨k, h⟩) S8x512.size (k0_off1_inb ⟨k, h⟩)
      let s := state k
      let b := arg18.view.readAt (Elt F) R.toLoadRect (arg18.view.writes (Elt F) G s.2)
      (k0_pay26 s.1 (arg17.view.readAt (Elt F) R.toLoadRect X) b,
        ⟨R, k0_pay25 s.1 (arg17.view.readAt (Elt F) R.toLoadRect X) b⟩ :: s.2)
    else state k

theorem state_succ (k : Fin k0_t1_loop.trips) : state arg17 arg18 X G H (k.val + 1)
    = (k0_pay26 (state arg17 arg18 X G H k.val).1 (arg17.view.readAt (Elt F) (Rect.unit (s := S256x512) (k0_off1 k) S8x512.size (k0_off1_inb k)).toLoadRect X)
        (arg18.view.readAt (Elt F) (Rect.unit (s := S256x512) (k0_off1 k) S8x512.size (k0_off1_inb k)).toLoadRect (arg18.view.writes (Elt F) G (state arg17 arg18 X G H k.val).2)),
      ⟨Rect.unit (s := S256x512) (k0_off1 k) S8x512.size (k0_off1_inb k),
        k0_pay25 (state arg17 arg18 X G H k.val).1 (arg17.view.readAt (Elt F) (Rect.unit (s := S256x512) (k0_off1 k) S8x512.size (k0_off1_inb k)).toLoadRect X)
        (arg18.view.readAt (Elt F) (Rect.unit (s := S256x512) (k0_off1 k) S8x512.size (k0_off1_inb k)).toLoadRect (arg18.view.writes (Elt F) G (state arg17 arg18 X G H k.val).2))⟩
        :: (state arg17 arg18 X G H k.val).2) := by
  rw [state, dif_pos k.isLt]

/-- A load of group `k`'s rows. -/
theorem load_rows (v : View sig .tc .vmem S256x512 .f32) (f : v.ty.Contents (Elt F)) (k : Fin k0_t1_loop.trips) :
    v.readAt (Elt F) (Rect.unit (s := S256x512) (k0_off1 k) S8x512.size (k0_off1_inb k)).toLoadRect f = rowsAt (v.read (Elt F) f) k.val := by
  have hk : k.val < 32 := Nat.lt_of_lt_of_eq k.isLt trips_eq
  rw [View.readAt_unit v f (k0_off1_inb k) rfl (k0_off1_inb k)]
  funext y
  refine congrArg (v.read (Elt F) f) (funext fun a => ?_)
  have h0 : (y (0 : Fin 2)).val < 8 := (y (0 : Fin 2)).isLt
  fin_cases a
  · refine Fin.ext ?_
    have e := congrFun (k0_off1_eq k) 0
    show k0_off1 k 0 + 1 * (y 0).val = (8 * k.val + (y 0).val) % 256
    rw [e]
    show 8 * k.val + 1 * (y 0).val = _
    omega
  · refine Fin.ext ?_
    have e := congrFun (k0_off1_eq k) 1
    show k0_off1 k 1 + 1 * (y 1).val = (y 1).val
    rw [e]
    show 0 + 1 * (y 1).val = _
    omega

/-- Before trip `k` the carry is `carry … k` and the second buffer reads `filled … k`. -/
theorem state_eq (k : ℕ) (hk : k ≤ 32) :
    (state arg17 arg18 X G H k).1 = carry (arg17.view.read (Elt F) X) (arg18.view.read (Elt F) G) H k
      ∧ arg18.view.read (Elt F) (arg18.view.writes (Elt F) G (state arg17 arg18 X G H k).2) = filled (arg17.view.read (Elt F) X) (arg18.view.read (Elt F) G) H k := by
  induction k with
  | zero => exact ⟨rfl, by funext y; exact (if_neg (Nat.not_lt_zero _)).symm⟩
  | succ k ih =>
    obtain ⟨ih1, ih2⟩ := ih (by omega)
    have hs := state_succ arg17 arg18 X G H ⟨k, by rw [trips_eq]; omega⟩
    rw [load_rows, load_rows, ih1, ih2] at hs
    have hB : rowsAt (filled (arg17.view.read (Elt F) X) (arg18.view.read (Elt F) G) H k) k = rowsAt (arg18.view.read (Elt F) G) k := by
      funext y
      have h0 : (y (0 : Fin 2)).val < 8 := (y (0 : Fin 2)).isLt
      refine if_neg ?_
      show ¬ ((8 * k + (y 0).val) % 256) / 8 < k
      omega
    rw [hB] at hs
    rw [hs]
    refine ⟨rfl, ?_⟩
    funext y
    have hy : (y (0 : Fin 2)).val < 256 := (y (0 : Fin 2)).isLt
    by_cases h : (y (0 : Fin 2)).val / 8 = k
    · refine (View.read_writes_cons_unit_of_mem arg18.view _ _ _ _ y (ix2 ⟨(y 0).val % 8, Nat.mod_lt _ (by decide)⟩ (y 1)) (k0_off1_eq ⟨k, by rw [trips_eq]; omega⟩) ?_).trans ?_
      · intro a
        fin_cases a
        · show (y 0).val = 8 * k + (y 0).val % 8
          omega
        · show (y 1).val = 0 + (y 1).val
          omega
      · subst h
        exact (if_pos (Nat.lt_succ_self _)).symm
    · refine (View.read_writes_cons_unit_of_not_mem arg18.view _ _ _ _ y (k0_off1_eq ⟨k, by rw [trips_eq]; omega⟩) (0 : Fin 2) ?_).trans ?_
      · show (y 0).val < 8 * k ∨ 8 * k + 8 ≤ (y 0).val
        omega
      · refine (congrFun ih2 y).trans ?_
        unfold filled
        by_cases h' : (y (0 : Fin 2)).val / 8 < k
        · rw [if_pos h', if_pos (by omega)]
        · rw [if_neg h', if_neg (by omega)]

/-- At the loop's end the carry. -/
theorem end_carry : (state arg17 arg18 X G H (Scf.trips k0_t1_loop.lb k0_t1_loop.ub k0_t1_loop.st)).1
    = carry (arg17.view.read (Elt F) X) (arg18.view.read (Elt F) G) H 32 := by
  have e : Scf.trips k0_t1_loop.lb k0_t1_loop.ub k0_t1_loop.st = 32 := trips_eq
  rw [e]; exact (state_eq arg17 arg18 X G H 32 le_rfl).1

/-- At the loop's end what the second buffer reads. -/
theorem end_filled : arg18.view.read (Elt F) (arg18.view.writes (Elt F) G (state arg17 arg18 X G H (Scf.trips k0_t1_loop.lb k0_t1_loop.ub k0_t1_loop.st)).2)
    = filled (arg17.view.read (Elt F) X) (arg18.view.read (Elt F) G) H 32 := by
  have e : Scf.trips k0_t1_loop.lb k0_t1_loop.ub k0_t1_loop.st = 32 := trips_eq
  rw [e]; exact (state_eq arg17 arg18 X G H 32 le_rfl).2
/-- At the loop's end what a load of the whole second buffer reads, where both buffers were filled whole before the loop. -/
theorem end_cov (w : S256x512.Idx → Elt F .f32) : arg18.view.readCov ((state arg17 arg18 X (arg18.view.writes (Elt F) arg18.view.junk [⟨Rect.unit ![0, 0] S256x512.size inb_S256x512_S256x512_0_0, w⟩]) H (Scf.trips k0_t1_loop.lb k0_t1_loop.ub k0_t1_loop.st)).2
      ++ [⟨Rect.unit ![0, 0] S256x512.size inb_S256x512_S256x512_0_0, w⟩]) (Rect.unit ![0, 0] S256x512.size inb_S256x512_S256x512_0_0).toLoadRect
    = filled (arg17.view.read (Elt F) X) w H 32 := by
  refine (View.readAt_full _ _ _).trans ?_
  rw [View.writes_append]
  refine (end_filled arg17 arg18 X _ H).trans ?_
  rw [View.read_writes_full]
end Loop

set_option warn.classDefReducibility false in
/-- The loop's invariant: the multipliers' buffer unchanged, the other buffer and the carry at `state`. -/
@[sl_loop] def seqInv (c : Dev nD) (E : Set ℕ) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x8x512 .f32) (harg11 : arg11.IsWhole) (arg12 : Memref sig .tc .vmem S1x1x512 .f32) (harg12 : arg12.IsWhole) (arg13 : Memref sig .tc .vmem S1x256x512 .bf16) (harg13 : arg13.IsWhole) (arg14 : Memref sig .tc .vmem S1x1x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S256x512 .f32) (harg17 : arg17.IsWhole) (arg18 : Memref sig .tc .vmem S256x512 .f32) (harg18 : arg18.IsWhole)
    (v106 : IVec S256x1 32) (v120 : FVec F S256x512 .f32) (v121 : FVec F S256x512 .f32) (v123 : IVec S256x1 1) (v124 : FVec F S256x512 .f32) (cst_44 : F .f32) (X : BufTy.Contents (Elt F) arg17.view.ty) (G : BufTy.Contents (Elt F) arg18.view.ty) (init : Vec F S8x512 .f32) :
    LoopInv (M := 𝕄) Idealize.ShloMosaic.frame (wpE (defs₀ (F := F)) Variants.none (c : Thread nD τ) none) E
      k0_t1_loop.lb k0_t1_loop.ub k0_t1_loop.st k0_t1_ok init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v106 v120 v121 v123 v124 cst_44) where
  inv k acc := iprop((arg17.view.loc (c : Thread nD τ) ↦[arg17.view.set]{fullShare} X)
    ∗ (∃ f, (arg18.view.loc (c : Thread nD τ) ↦[arg18.view.set]{fullShare} f) ∗ ⌜f = arg18.view.writes (Elt F) G (state arg17 arg18 X G init k).2⌝)
    ∗ ⌜acc = (state arg17 arg18 X G init k).1⌝)
  step k acc := by
    have hk : k.val < 32 := Nat.lt_of_lt_of_le k.isLt k0_t1_abs.2.1
    iintro ⟨H17, ⟨%f, H18, %hf⟩, %hacc⟩
    subst hf hacc
    unfold k0_t1_body
    sl_exec
    sl_step
    isplitl [H17]; · iexact H17
    rw [state_succ]
    isplitl [H18]
    · iexists _; isplitl [H18]; · iexact H18
      ipureintro; rfl
    ipureintro; rfl

/-! ## The body -/

/-- The body's condition: the point is a batch row's first chunk. -/
abbrev cond0 (i : grid0.Coords) : Prop := (Scalar.cmpi .ne (Scalar.extui (Scalar.cmpi .eq (BitVec.ofNat 32 (i 1).val) 0#32)) 0#32) = 1#1

set_option maxHeartbeats 4000000 in
/-- The body at a batch row's first chunk: whatever the carried buffers hold, they are set from the initial window and state, and the chunk is then done from these. -/
theorem body_reset (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x8x512 .f32) (harg11 : arg11.IsWhole) (arg12 : Memref sig .tc .vmem S1x1x512 .f32) (harg12 : arg12.IsWhole) (arg13 : Memref sig .tc .vmem S1x256x512 .bf16) (harg13 : arg13.IsWhole) (arg14 : Memref sig .tc .vmem S1x1x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S256x512 .f32) (harg17 : arg17.IsWhole) (arg18 : Memref sig .tc .vmem S256x512 .f32) (harg18 : arg18.IsWhole)
    (hc0 : cond0 i) (x : Vec F S1x256x512 .f32) (g : Vec F S1x256x512 .f32) (cw : Vec F S4x512 .f32) (cb : Vec F S1x512 .f32) (wr : Vec F S512x512 .bf16) (br : Vec F S1x512 .f32) (wi : Vec F S512x512 .bf16) (bi : Vec F S1x512 .f32) (lam : Vec F S1x512 .f32) (pb : Vec F S1x8x512 .f32) (h0 : Vec F S1x1x512 .f32) (E : Set ℕ) (K : PUnit → sProp 𝕄) :
    iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wr ∗ owns (c : Thread nD τ) arg7 fullShare br ∗ owns (c : Thread nD τ) arg8 fullShare wi ∗ owns (c : Thread nD τ) arg9 fullShare bi ∗ owns (c : Thread nD τ) arg10 fullShare lam ∗ owns (c : Thread nD τ) arg11 fullShare pb ∗ owns (c : Thread nD τ) arg12 fullShare h0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wr ∗ owns (c : Thread nD τ) arg7 fullShare br ∗ owns (c : Thread nD τ) arg8 fullShare wi ∗ owns (c : Thread nD τ) arg9 fullShare bi ∗ owns (c : Thread nD τ) arg10 fullShare lam ∗ owns (c : Thread nD τ) arg11 fullShare pb ∗ owns (c : Thread nD τ) arg12 fullShare h0 ∗ owns (c : Thread nD τ) arg13 fullShare (outOf x cw cb wr br wi bi lam (k0_pay3 pb) (k0_pay4 h0) g) ∗ owns (c : Thread nD τ) arg14 fullShare (lastOf x cw cb wr br wi bi lam (k0_pay3 pb) (k0_pay4 h0)) ∗ owns (c : Thread nD τ) arg15 fullShare (k0_pay7 x) ∗ owns (c : Thread nD τ) arg16 fullShare (stateOf x cw cb wr br wi bi lam (k0_pay3 pb) (k0_pay4 h0)) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_seq_eq_skeleton, k0_part1_eq_skeleton, k0_part2_eq_skeleton, k0_part3_eq_skeleton, k0_part4_eq_skeleton]
  unfold cc0_rglru_seq_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    try delta body_reset.sl.v164
    try delta body_reset.sl.r_10
    try delta body_reset.sl.r_9
    try delta body_reset.sl.H18_1
    try delta body_reset.sl.H17_1
    try delta body_reset.sl.v158
    try delta body_reset.sl.H16_1
    try delta body_reset.sl.r_8
    try delta body_reset.sl.r_7
    try delta body_reset.sl.r_6
    try delta body_reset.sl.r_5
    try delta body_reset.sl.r_4
    try delta body_reset.sl.r_3
    try delta body_reset.sl.r_2
    try delta body_reset.sl.r_1
    try delta body_reset.sl.r
    try delta body_reset.sl.v5
    try delta body_reset.sl.H15_2
    try delta body_reset.sl.H15_1
    try delta body_reset.sl.cst_44
    simp (proj := false) only [outOf, mulOf, addOf, logOf, termOf, View.readAt_full, View.read_writes_full, View.readAt_writes_full, View.readCov_full,
      Memref.IsWhole.read_unread, end_carry, end_filled, end_cov]
  isplitl [H14]
  · iexists _; isplitr; swap; · iexact H14
    ipureintro
    try delta body_reset.sl.v164
    try delta body_reset.sl.r_10
    try delta body_reset.sl.r_9
    try delta body_reset.sl.H18_1
    try delta body_reset.sl.H17_1
    try delta body_reset.sl.v158
    try delta body_reset.sl.H16_1
    try delta body_reset.sl.r_8
    try delta body_reset.sl.r_7
    try delta body_reset.sl.r_6
    try delta body_reset.sl.r_5
    try delta body_reset.sl.r_4
    try delta body_reset.sl.r_3
    try delta body_reset.sl.r_2
    try delta body_reset.sl.r_1
    try delta body_reset.sl.r
    try delta body_reset.sl.v5
    try delta body_reset.sl.H15_2
    try delta body_reset.sl.H15_1
    try delta body_reset.sl.cst_44
    simp (proj := false) only [lastOf, endOf, mulOf, addOf, logOf, termOf, View.readAt_full, View.read_writes_full, View.readAt_writes_full, View.readCov_full,
      Memref.IsWhole.read_unread, end_carry, end_filled, end_cov]
  isplitl [H15]
  · iexists _; isplitr; swap; · iexact H15
    ipureintro
    try delta body_reset.sl.v164
    try delta body_reset.sl.r_10
    try delta body_reset.sl.r_9
    try delta body_reset.sl.H18_1
    try delta body_reset.sl.H17_1
    try delta body_reset.sl.v158
    try delta body_reset.sl.H16_1
    try delta body_reset.sl.r_8
    try delta body_reset.sl.r_7
    try delta body_reset.sl.r_6
    try delta body_reset.sl.r_5
    try delta body_reset.sl.r_4
    try delta body_reset.sl.r_3
    try delta body_reset.sl.r_2
    try delta body_reset.sl.r_1
    try delta body_reset.sl.r
    try delta body_reset.sl.v5
    try delta body_reset.sl.H15_2
    try delta body_reset.sl.H15_1
    try delta body_reset.sl.cst_44
    simp (proj := false) only [mulOf, addOf, logOf, termOf, View.readAt_full, View.read_writes_full, View.readAt_writes_full, View.readCov_full,
      Memref.IsWhole.read_unread, end_carry, end_filled, end_cov]
  isplitl [H16]
  · iexists _; isplitr; swap; · iexact H16
    ipureintro
    try delta body_reset.sl.v164
    try delta body_reset.sl.r_10
    try delta body_reset.sl.r_9
    try delta body_reset.sl.H18_1
    try delta body_reset.sl.H17_1
    try delta body_reset.sl.v158
    try delta body_reset.sl.H16_1
    try delta body_reset.sl.r_8
    try delta body_reset.sl.r_7
    try delta body_reset.sl.r_6
    try delta body_reset.sl.r_5
    try delta body_reset.sl.r_4
    try delta body_reset.sl.r_3
    try delta body_reset.sl.r_2
    try delta body_reset.sl.r_1
    try delta body_reset.sl.r
    try delta body_reset.sl.v5
    try delta body_reset.sl.H15_2
    try delta body_reset.sl.H15_1
    try delta body_reset.sl.cst_44
    simp (proj := false) only [stateOf, endOf, mulOf, addOf, logOf, termOf, View.readAt_full, View.read_writes_full, View.readAt_writes_full, View.readCov_full,
      Memref.IsWhole.read_unread, end_carry, end_filled, end_cov]
  isplitl [H17]
  · iexists _, _; isplitr; swap; · iexact H17
    ipureintro; rfl
  iexists _, _; isplitr; swap; · iexact H18
  ipureintro; rfl

set_option maxHeartbeats 4000000 in
/-- The body at every other chunk: the chunk is done from the carried window `P` and state `H`. -/
theorem body_carry (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x8x512 .f32) (harg11 : arg11.IsWhole) (arg12 : Memref sig .tc .vmem S1x1x512 .f32) (harg12 : arg12.IsWhole) (arg13 : Memref sig .tc .vmem S1x256x512 .bf16) (harg13 : arg13.IsWhole) (arg14 : Memref sig .tc .vmem S1x1x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S256x512 .f32) (harg17 : arg17.IsWhole) (arg18 : Memref sig .tc .vmem S256x512 .f32) (harg18 : arg18.IsWhole)
    (hc0 : ¬ cond0 i) (x : Vec F S1x256x512 .f32) (g : Vec F S1x256x512 .f32) (cw : Vec F S4x512 .f32) (cb : Vec F S1x512 .f32) (wr : Vec F S512x512 .bf16) (br : Vec F S1x512 .f32) (wi : Vec F S512x512 .bf16) (bi : Vec F S1x512 .f32) (lam : Vec F S1x512 .f32) (pb : Vec F S1x8x512 .f32) (h0 : Vec F S1x1x512 .f32) (P H : Vec F S8x512 .f32) (E : Set ℕ) (K : PUnit → sProp 𝕄) :
    iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wr ∗ owns (c : Thread nD τ) arg7 fullShare br ∗ owns (c : Thread nD τ) arg8 fullShare wi ∗ owns (c : Thread nD τ) arg9 fullShare bi ∗ owns (c : Thread nD τ) arg10 fullShare lam ∗ owns (c : Thread nD τ) arg11 fullShare pb ∗ owns (c : Thread nD τ) arg12 fullShare h0 ∗ (∃ d, owns (c : Thread nD τ) arg13 fullShare d) ∗ (∃ d, owns (c : Thread nD τ) arg14 fullShare d) ∗ owns (c : Thread nD τ) arg15 fullShare P ∗ owns (c : Thread nD τ) arg16 fullShare H ∗ (∃ d, owns (c : Thread nD τ) arg17 fullShare d) ∗ (∃ d, owns (c : Thread nD τ) arg18 fullShare d)
        ∗ (iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wr ∗ owns (c : Thread nD τ) arg7 fullShare br ∗ owns (c : Thread nD τ) arg8 fullShare wi ∗ owns (c : Thread nD τ) arg9 fullShare bi ∗ owns (c : Thread nD τ) arg10 fullShare lam ∗ owns (c : Thread nD τ) arg11 fullShare pb ∗ owns (c : Thread nD τ) arg12 fullShare h0 ∗ owns (c : Thread nD τ) arg13 fullShare (outOf x cw cb wr br wi bi lam P H g) ∗ owns (c : Thread nD τ) arg14 fullShare (lastOf x cw cb wr br wi bi lam P H) ∗ owns (c : Thread nD τ) arg15 fullShare (k0_pay7 x) ∗ owns (c : Thread nD τ) arg16 fullShare (stateOf x cw cb wr br wi bi lam P H) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_seq_eq_skeleton, k0_part1_eq_skeleton, k0_part2_eq_skeleton, k0_part3_eq_skeleton, k0_part4_eq_skeleton]
  unfold cc0_rglru_seq_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg15.eq_unread hf15
  obtain rfl := harg16.eq_unread hf16
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    try delta body_carry.sl.v164
    try delta body_carry.sl.r_10
    try delta body_carry.sl.r_9
    try delta body_carry.sl.H18_1
    try delta body_carry.sl.H17_1
    try delta body_carry.sl.r_8
    try delta body_carry.sl.r_7
    try delta body_carry.sl.r_6
    try delta body_carry.sl.r_5
    try delta body_carry.sl.r_4
    try delta body_carry.sl.r_3
    try delta body_carry.sl.r_2
    try delta body_carry.sl.r_1
    try delta body_carry.sl.r
    try delta body_carry.sl.H15_1
    try delta body_carry.sl.cst_44
    simp (proj := false) only [outOf, mulOf, addOf, logOf, termOf, View.readAt_full, View.read_writes_full, View.readAt_writes_full, View.readCov_full,
      Memref.IsWhole.read_unread, end_carry, end_filled, end_cov]
  isplitl [H14]
  · iexists _; isplitr; swap; · iexact H14
    ipureintro
    try delta body_carry.sl.v164
    try delta body_carry.sl.r_10
    try delta body_carry.sl.r_9
    try delta body_carry.sl.H18_1
    try delta body_carry.sl.H17_1
    try delta body_carry.sl.r_8
    try delta body_carry.sl.r_7
    try delta body_carry.sl.r_6
    try delta body_carry.sl.r_5
    try delta body_carry.sl.r_4
    try delta body_carry.sl.r_3
    try delta body_carry.sl.r_2
    try delta body_carry.sl.r_1
    try delta body_carry.sl.r
    try delta body_carry.sl.H15_1
    try delta body_carry.sl.cst_44
    simp (proj := false) only [lastOf, endOf, mulOf, addOf, logOf, termOf, View.readAt_full, View.read_writes_full, View.readAt_writes_full, View.readCov_full,
      Memref.IsWhole.read_unread, end_carry, end_filled, end_cov]
  isplitl [H15]
  · iexists _; isplitr; swap; · iexact H15
    ipureintro
    try delta body_carry.sl.v164
    try delta body_carry.sl.r_10
    try delta body_carry.sl.r_9
    try delta body_carry.sl.H18_1
    try delta body_carry.sl.H17_1
    try delta body_carry.sl.r_8
    try delta body_carry.sl.r_7
    try delta body_carry.sl.r_6
    try delta body_carry.sl.r_5
    try delta body_carry.sl.r_4
    try delta body_carry.sl.r_3
    try delta body_carry.sl.r_2
    try delta body_carry.sl.r_1
    try delta body_carry.sl.r
    try delta body_carry.sl.H15_1
    try delta body_carry.sl.cst_44
    simp (proj := false) only [mulOf, addOf, logOf, termOf, View.readAt_full, View.read_writes_full, View.readAt_writes_full, View.readCov_full,
      Memref.IsWhole.read_unread, end_carry, end_filled, end_cov]
  isplitl [H16]
  · iexists _; isplitr; swap; · iexact H16
    ipureintro
    try delta body_carry.sl.v164
    try delta body_carry.sl.r_10
    try delta body_carry.sl.r_9
    try delta body_carry.sl.H18_1
    try delta body_carry.sl.H17_1
    try delta body_carry.sl.r_8
    try delta body_carry.sl.r_7
    try delta body_carry.sl.r_6
    try delta body_carry.sl.r_5
    try delta body_carry.sl.r_4
    try delta body_carry.sl.r_3
    try delta body_carry.sl.r_2
    try delta body_carry.sl.r_1
    try delta body_carry.sl.r
    try delta body_carry.sl.H15_1
    try delta body_carry.sl.cst_44
    simp (proj := false) only [stateOf, endOf, mulOf, addOf, logOf, termOf, View.readAt_full, View.read_writes_full, View.readAt_writes_full, View.readCov_full,
      Memref.IsWhole.read_unread, end_carry, end_filled, end_cov]
  isplitl [H17]
  · iexists _, _; isplitr; swap; · iexact H17
    ipureintro; rfl
  iexists _, _; isplitr; swap; · iexact H18
  ipureintro; rfl

end Cert.KernelIdeal.Seq

end
-- ==== Proof.Run.lean ====
module

public import proofs.«01_k».proof.Proof.Body
public import Idealize.ShloMosaic.Lib.Claim
public import Idealize.ShloMosaic.Lib.WordCmp

/-! The kernel's run: the 128 grid points one after another, the two carried buffers tracked from point to point;
where the run ends, both result arrays as what the points wrote back, and every argument unchanged. -/

@[expose] public section

set_option maxRecDepth 16384

noncomputable section

namespace Cert.KernelIdeal.Seq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried from point to point -/

/-- The two carried values a point starts from: the initial window and state at a batch row's first chunk, what the point before left otherwise. -/
def start (c : Dev nD) : (n : ℕ) → n < cfg0.N → Vec F S8x512 .f32 × Vec F S8x512 .f32
  | 0, hn => (k0_pay3 (iblk m c 9 ⟨0, hn⟩), k0_pay4 (iblk m c 10 ⟨0, hn⟩))
  | n + 1, hn =>
    if (n + 1) % 16 = 0 then (k0_pay3 (iblk m c 9 ⟨n + 1, hn⟩), k0_pay4 (iblk m c 10 ⟨n + 1, hn⟩))
    else (k0_pay7 (iblk m c 0 ⟨n, Nat.lt_of_succ_lt hn⟩), stateOf (iblk m c 0 ⟨n, Nat.lt_of_succ_lt hn⟩) (iblk m c 2 ⟨n, Nat.lt_of_succ_lt hn⟩) (iblk m c 3 ⟨n, Nat.lt_of_succ_lt hn⟩) (iblk m c 4 ⟨n, Nat.lt_of_succ_lt hn⟩) (iblk m c 5 ⟨n, Nat.lt_of_succ_lt hn⟩) (iblk m c 6 ⟨n, Nat.lt_of_succ_lt hn⟩) (iblk m c 7 ⟨n, Nat.lt_of_succ_lt hn⟩) (iblk m c 8 ⟨n, Nat.lt_of_succ_lt hn⟩) (start c n (Nat.lt_of_succ_lt hn)).1 (start c n (Nat.lt_of_succ_lt hn)).2)

/-- The previous rows a point leaves. -/
def leftP (c : Dev nD) (t : Fin cfg0.N) : Vec F S8x512 .f32 := k0_pay7 (iblk m c 0 t)
/-- The state a point leaves. -/
def leftH (c : Dev nD) (t : Fin cfg0.N) : Vec F S8x512 .f32 := stateOf (iblk m c 0 t) (iblk m c 2 t) (iblk m c 3 t) (iblk m c 4 t) (iblk m c 5 t) (iblk m c 6 t) (iblk m c 7 t) (iblk m c 8 t) (start m c t.val t.isLt).1 (start m c t.val t.isLt).2
/-- The block of the first result a point writes. -/
def outAt (c : Dev nD) (t : Fin cfg0.N) : Vec F S1x256x512 .bf16 := outOf (iblk m c 0 t) (iblk m c 2 t) (iblk m c 3 t) (iblk m c 4 t) (iblk m c 5 t) (iblk m c 6 t) (iblk m c 7 t) (iblk m c 8 t) (start m c t.val t.isLt).1 (start m c t.val t.isLt).2 (iblk m c 1 t)
/-- The block of the second result a point writes. -/
def lastAt (c : Dev nD) (t : Fin cfg0.N) : Vec F S1x1x512 .f32 := lastOf (iblk m c 0 t) (iblk m c 2 t) (iblk m c 3 t) (iblk m c 4 t) (iblk m c 5 t) (iblk m c 6 t) (iblk m c 7 t) (iblk m c 8 t) (start m c t.val t.isLt).1 (start m c t.val t.isLt).2

theorem start_reset (c : Dev nD) (t : Fin cfg0.N) (h : t.val % 16 = 0) :
    start m c t.val t.isLt = (k0_pay3 (iblk m c 9 t), k0_pay4 (iblk m c 10 t)) := by
  obtain ⟨n, hn⟩ := t
  cases n with
  | zero => rfl
  | succ n => exact if_pos h

theorem start_carry (c : Dev nD) (n : ℕ) (hn : n + 1 < cfg0.N) (h : ¬ (n + 1) % 16 = 0) :
    start m c (n + 1) hn = (leftP m c ⟨n, Nat.lt_of_succ_lt hn⟩, leftH m c ⟨n, Nat.lt_of_succ_lt hn⟩) := if_neg h

theorem start_pos (c : Dev nD) (t : Fin cfg0.N) (h : ¬ t.val % 16 = 0) (hz : t.val ≠ 0) :
    start m c t.val t.isLt = (leftP m c ⟨t.val - 1, Nat.lt_of_le_of_lt (Nat.sub_le _ _) t.isLt⟩, leftH m c ⟨t.val - 1, Nat.lt_of_le_of_lt (Nat.sub_le _ _) t.isLt⟩) := by
  obtain ⟨n, hn⟩ := t
  cases n with
  | zero => exact absurd rfl hz
  | succ n => exact start_carry m c n hn h

/-- The body's condition in closed form. -/
theorem cond0_iff (t : Fin cfg0.N) : cond0 (grid0.coords t) ↔ t.val % 16 = 0 := by
  have e1 : (grid0.coords t 1).val = t.val / 1 % 16 := Pipeline.Grid.coords_val t 1 (by decide) rfl
  simp only [cond0, e1]
  word_cmp

/-! ## The tracked invariant -/

abbrev scA : Memref sig .tc .vmem S8x512 .f32 := Memref.whole cc0_scratch0
abbrev scB : Memref sig .tc .vmem S8x512 .f32 := Memref.whole cc0_scratch1
abbrev scC : Memref sig .tc .vmem S256x512 .f32 := Memref.whole cc0_scratch2
abbrev scD : Memref sig .tc .vmem S256x512 .f32 := Memref.whole cc0_scratch3

theorem PhiA_eq (c : Dev nD) :
    (Pipeline.ΦA spec0 c : sProp 𝕄)
      = iprop(iprop((∃ d, owns (c : Thread nD τ) scA fullShare d) ∗ (∃ d, owns (c : Thread nD τ) scB fullShare d) ∗ (∃ d, owns (c : Thread nD τ) scC fullShare d) ∗ (∃ d, owns (c : Thread nD τ) scD fullShare d)) ∗ (∃ r, prngReg c r)) := by
  unfold Pipeline.ΦA; rw [scopedRest0_eq]; simp only [scA, scB, scC, scD, owns_whole]; try rfl

/-- The invariant before position `n`: at first every scratch buffer at anything; afterwards the two carried ones at what the point before left. -/
def PhiS (c : Dev nD) : (n : ℕ) → n ≤ cfg0.N → sProp 𝕄
  | 0, _ => Pipeline.ΦA spec0 c
  | n + 1, hn => iprop(iprop(owns (c : Thread nD τ) scA fullShare (leftP m c ⟨n, hn⟩) ∗ owns (c : Thread nD τ) scB fullShare (leftH m c ⟨n, hn⟩) ∗ (∃ d, owns (c : Thread nD τ) scC fullShare d) ∗ (∃ d, owns (c : Thread nD τ) scD fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare (leftP m c ⟨n, hn⟩) ∗ owns (c : Thread nD τ) scB fullShare (leftH m c ⟨n, hn⟩) ∗ (∃ d, owns (c : Thread nD τ) scC fullShare d) ∗ (∃ d, owns (c : Thread nD τ) scD fullShare d)) ∗ (∃ r, prngReg c r)) := rfl

theorem PhiS_pos (c : Dev nD) (n : ℕ) (h : n ≤ cfg0.N) (hz : n ≠ 0) :
    PhiS m c n h = iprop(iprop(owns (c : Thread nD τ) scA fullShare (leftP m c ⟨n - 1, by omega⟩) ∗ owns (c : Thread nD τ) scB fullShare (leftH m c ⟨n - 1, by omega⟩) ∗ (∃ d, owns (c : Thread nD τ) scC fullShare d) ∗ (∃ d, owns (c : Thread nD τ) scD fullShare d)) ∗ (∃ r, prngReg c r)) := by
  cases n with
  | zero => exact absurd rfl hz
  | succ n => rfl

/-- The proof data: each input's buffer at its block, each output's at the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨12, _⟩ => lastAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt m c t := by dsimp only [dats]
theorem after_12 (c : Dev nD) (t : Fin cfg0.N) : (dats m 0 c).after 12 t = lastAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

/-! ## The body at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

set_option maxHeartbeats 3200000 in
/-- The body at any point, from the two whole-body runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl, after_0, after_1, after_2, after_3, after_4, after_5, after_6, after_7, after_8, after_9, after_10, after_11, after_12]
  rw [show (dats m 0 c).Φ t.succ = PhiS m c (t.val + 1) t.isLt from rfl, PhiS_succ]
  by_cases h0 : t.val % 16 = 0
  · have eP : (start m c t.val t.isLt).1 = k0_pay3 (iblk m c 9 t) := by rw [start_reset m c t h0]
    have eH : (start m c t.val t.isLt).2 = k0_pay4 (iblk m c 10 t) := by rw [start_reset m c t h0]
    unfold leftP leftH outAt lastAt
    rw [eP, eH]
    by_cases hz : t.val = 0
    · rw [PhiS_castSucc m c t, PhiS_zero m c _ _ hz, PhiA_eq]
      iintro ⟨⟨⟨HSA, HSB, HSC, HSD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_reset c (grid0.coords t) _ _ _ _ _ _ _ _ _ _ _ _ _ _ _ _ _ _ _ _ _ _ _ _ _ _ _ _ _ _ _ _ _ _ ((cond0_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HSA]; · iexact HSA
      isplitl [HSB]; · iexact HSB
      isplitl [HSC]; · iexact HSC
      isplitl [HSD]; · iexact HSD
      iintro ⟨H0, H1, H2, H3, H4, H5, H6, H7, H8, H9, H10, H11, H12, HSA, HSB, HSC, HSD⟩
      isplitl [HSA HSB HSC HSD Hg]
      · isplitl [HSA HSB HSC HSD]
        · isplitl [HSA]; · iexact HSA
          isplitl [HSB]; · iexact HSB
          isplitl [HSC]; · iexact HSC
          iexact HSD
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [PhiS_castSucc m c t, PhiS_pos m c _ _ hz]
      iintro ⟨⟨⟨HSA, HSB, HSC, HSD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_reset c (grid0.coords t) _ _ _ _ _ _ _ _ _ _ _ _ _ _ _ _ _ _ _ _ _ _ _ _ _ _ _ _ _ _ _ _ _ _ ((cond0_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HSA]; · iexists _; iexact HSA
      isplitl [HSB]; · iexists _; iexact HSB
      isplitl [HSC]; · iexact HSC
      isplitl [HSD]; · iexact HSD
      iintro ⟨H0, H1, H2, H3, H4, H5, H6, H7, H8, H9, H10, H11, H12, HSA, HSB, HSC, HSD⟩
      isplitl [HSA HSB HSC HSD Hg]
      · isplitl [HSA HSB HSC HSD]
        · isplitl [HSA]; · iexact HSA
          isplitl [HSB]; · iexact HSB
          isplitl [HSC]; · iexact HSC
          iexact HSD
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · have hz : t.val ≠ 0 := fun h => h0 (by rw [h])
    have eP : (start m c t.val t.isLt).1 = leftP m c ⟨t.val - 1, Nat.lt_of_le_of_lt (Nat.sub_le _ _) t.isLt⟩ := by rw [start_pos m c t h0 hz]
    have eH : (start m c t.val t.isLt).2 = leftH m c ⟨t.val - 1, Nat.lt_of_le_of_lt (Nat.sub_le _ _) t.isLt⟩ := by rw [start_pos m c t h0 hz]
    rw [PhiS_castSucc m c t, PhiS_pos m c _ _ hz]
    rw [show leftP m c ⟨t.val, t.isLt⟩ = k0_pay7 (iblk m c 0 t) from rfl,
      show leftH m c ⟨t.val, t.isLt⟩ = stateOf (iblk m c 0 t) (iblk m c 2 t) (iblk m c 3 t) (iblk m c 4 t) (iblk m c 5 t) (iblk m c 6 t) (iblk m c 7 t) (iblk m c 8 t) (start m c t.val t.isLt).1 (start m c t.val t.isLt).2 from rfl]
    unfold outAt lastAt
    rw [eP, eH]
    iintro ⟨⟨⟨HSA, HSB, HSC, HSD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_carry c (grid0.coords t) _ _ _ _ _ _ _ _ _ _ _ _ _ _ _ _ _ _ _ _ _ _ _ _ _ _ _ _ _ _ _ _ _ _ (fun h => h0 ((cond0_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HSA]; · iexact HSA
    isplitl [HSB]; · iexact HSB
    isplitl [HSC]; · iexact HSC
    isplitl [HSD]; · iexact HSD
    iintro ⟨H0, H1, H2, H3, H4, H5, H6, H7, H8, H9, H10, H11, H12, HSA, HSB, HSC, HSD⟩
    isplitl [HSA HSB HSC HSD Hg]
    · isplitl [HSA HSB HSC HSD]
      · isplitl [HSA]; · iexact HSA
        isplitl [HSB]; · iexact HSB
        isplitl [HSC]; · iexact HSC
        iexact HSD
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point what the carried buffers hold is forgotten. -/
theorem hout (c : Dev nD) : (dats m 0 c).Φ (Fin.last cfg0.N) ⊢ Pipeline.ΦA spec0 c := by
  have hN : cfg0.N = 128 := N_0
  rw [show (dats m 0 c).Φ (Fin.last cfg0.N) = PhiS m c cfg0.N le_rfl from rfl, PhiS_pos m c _ _ (by omega), PhiA_eq]
  iintro ⟨⟨HSA, HSB, HSC, HSD⟩, Hg⟩
  isplitl [HSA HSB HSC HSD]
  · isplitl [HSA]; · iexists _; iexact HSA
    isplitl [HSB]; · iexists _; iexact HSB
    isplitl [HSC]; · iexact HSC
    iexact HSD
  iexact Hg

/-! ## The run -/

set_option backward.isDefEq.respectTransparency.types false in
/-- Every weakly fair execution terminates, with every array of the pipeline at what the proof data give and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_frame : θ_run defs (onTc (τ := τ) (main (F := F))) (s₀ m ρ) (Pipeline.FramePost cfgs (dats m) 0 (V m)) :=
  (θ_run defs _ _).mono (fun _ h => h.1) (run_quiescent m ρ)

/-- The frame at any values: every argument array ends unchanged, every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_frame m ρ)) ((θ_run defs _ _).mono (fun _ h => h.2) (run_quiescent m ρ))

end Cert.KernelIdeal.Seq

end
-- ==== Proof.Pure.lean ====
module

public import Idealize.ShloMosaic.Lib.ValueIdx
public import Idealize.ShloMosaic.Lib.IdealHost
public import Mathlib.Analysis.SpecialFunctions.Trigonometric.DerivHyp

/-! Facts about extended reals that the recurrence needs: the gates lie in `[0, 1]`, the decay lies in `[0, 1]`, the
input scale's two forms agree, and steps of an affine recurrence whose multipliers lie in `[0, 1]` compose. -/

@[expose] public section

noncomputable section

namespace Cert.Pure

open Idealize.ShloMosaic

/-! ## The scalar functions -/

/-- The gate: `1 / (1 + exp (-z))`. -/
def gate (z : EReal) : EReal := Ideal.div 1 (1 + Ideal.exp (-z))

/-- `log (1 + exp u)` in the form that never overflows. -/
def softplus (u : EReal) : EReal := max u 0 + Ideal.log1p (Ideal.exp (-(max u (-u))))

theorem exp_nonneg (x : EReal) : 0 ≤ Ideal.exp x := by
  induction x using EReal.rec with
  | bot => simp
  | top => simp
  | coe r => rw [Ideal.exp_coe]; exact_mod_cast (Real.exp_pos r).le

theorem exp_le_one {x : EReal} (h : x ≤ 0) : Ideal.exp x ≤ 1 := by
  induction x using EReal.rec with
  | bot => simp
  | top => exact absurd h (by simp)
  | coe r => rw [Ideal.exp_coe]; exact_mod_cast Real.exp_le_one_iff.mpr (by exact_mod_cast h)

/-- A gate lies in `[0, 1]`. -/
theorem gate_mem (z : EReal) : 0 ≤ gate z ∧ gate z ≤ 1 := by
  have h : gate z = Ideal.logistic z := rfl
  rw [h]
  induction z using EReal.rec with
  | bot => simp
  | top => simp
  | coe r =>
    rw [Ideal.logistic_coe]
    have h1 : (1 : ℝ) ≤ 1 + Real.exp (-r) := by linarith [Real.exp_pos (-r)]
    constructor
    · exact_mod_cast inv_nonneg.mpr (by linarith)
    · exact_mod_cast inv_le_one_of_one_le₀ h1

theorem log1p_nonneg {x : EReal} (h : 0 ≤ x) : 0 ≤ Ideal.log1p x := by
  unfold Ideal.log1p
  induction x using EReal.rec with
  | bot => exact absurd h (by simp)
  | top =>
    rw [show (1 : EReal) + ⊤ = ⊤ from EReal.coe_add_top 1, Ideal.log_top]
    exact le_top
  | coe r =>
    have hr : 0 ≤ r := by exact_mod_cast h
    rw [show (1 : EReal) + (r : EReal) = ((1 + r : ℝ) : EReal) from rfl, Ideal.log_coe]
    rw [if_neg (by linarith)]
    exact_mod_cast Real.log_nonneg (by linarith)

theorem softplus_nonneg (u : EReal) : 0 ≤ softplus u :=
  add_nonneg (le_max_right _ _) (log1p_nonneg (exp_nonneg _))

/-- The decay's exponent is never positive. -/
theorem exponent_nonpos (z u : EReal) (k : ℝ) (hk : k ≤ 0) : (k : EReal) * gate z * softplus u ≤ 0 := by
  have h1 : (k : EReal) * gate z ≤ 0 :=
    EReal.mul_nonpos_iff.mpr (Or.inr ⟨by exact_mod_cast hk, (gate_mem z).1⟩)
  exact EReal.mul_nonpos_iff.mpr (Or.inr ⟨h1, softplus_nonneg u⟩)

theorem two_mul_coe (r : ℝ) : ((2 : ℝ) : EReal) * (r : EReal) = ((2 * r : ℝ) : EReal) := rfl

/-- The two forms of `1 - exp (2 x)` agree at every extended real. -/
theorem scale_eq (x : EReal) :
    -(Ideal.exp (((2 : ℝ) : EReal) * x) - 1) = (0 - Ideal.tanh x) * (Ideal.exp x * Ideal.exp x + 1) := by
  induction x using EReal.rec with
  | bot =>
    rw [EReal.coe_mul_bot_of_pos (by norm_num)]
    simp
  | top =>
    rw [EReal.coe_mul_top_of_pos (by norm_num)]
    have e1 : (⊤ : EReal) - 1 = ⊤ := EReal.top_sub_coe 1
    have e2 : (⊤ : EReal) + 1 = ⊤ := EReal.top_add_coe 1
    have e3 : (0 : EReal) - 1 = ((-1 : ℝ) : EReal) := by
      rw [zero_sub]; rfl
    simp only [Ideal.exp_top, Ideal.tanh_top, EReal.top_mul_top, e1, e2, e3]
    rw [EReal.coe_mul_top_of_neg (by norm_num)]
    rfl
  | coe r =>
    rw [two_mul_coe, Ideal.exp_coe, Ideal.exp_coe, Ideal.tanh_coe]
    have e : -(Real.exp (2 * r) - 1) = (0 - Real.tanh r) * (Real.exp r * Real.exp r + 1) := by
      rw [Real.tanh_eq_sinh_div_cosh, Real.sinh_eq, Real.cosh_eq, two_mul, Real.exp_add, Real.exp_neg]
      have h := Real.exp_pos r
      field_simp
      ring
    exact_mod_cast congrArg (fun t : ℝ => (t : EReal)) e

/-! ## Affine steps -/

/-- `n` steps of `h ↦ a j * h + b j` from step `lo` on. -/
def steps (a b : ℕ → EReal) (lo : ℕ) : ℕ → EReal → EReal
  | 0, h => h
  | n + 1, h => a (lo + n) * steps a b lo n h + b (lo + n)

theorem steps_add (a b : ℕ → EReal) (lo k n : ℕ) (h : EReal) :
    steps a b lo (k + n) h = steps a b (lo + k) n (steps a b lo k h) := by
  induction n with
  | zero => rfl
  | succ n ih =>
    show a (lo + (k + n)) * steps a b lo (k + n) h + b (lo + (k + n)) = a (lo + k + n) * _ + b (lo + k + n)
    rw [ih, Nat.add_assoc]

/-- Steps agree where the coefficients they use do. -/
theorem steps_congr (a b a' b' : ℕ → EReal) (lo lo' n : ℕ) (h : EReal)
    (ha : ∀ j < n, a (lo + j) = a' (lo' + j)) (hb : ∀ j < n, b (lo + j) = b' (lo' + j)) :
    steps a b lo n h = steps a' b' lo' n h := by
  induction n with
  | zero => rfl
  | succ n ih =>
    show a (lo + n) * steps a b lo n h + b (lo + n) = a' (lo' + n) * steps a' b' lo' n h + b' (lo' + n)
    rw [ih (fun j hj => ha j (by omega)) (fun j hj => hb j (by omega)), ha n (by omega), hb n (by omega)]

/-- `(A, B)` at row `r` does the last `min (r % 8) (d - 1) + 1` steps up to row `r`, and its multiplier lies in `[0, 1]`. -/
def Does (a b A B : ℕ → EReal) (d : ℕ) : Prop :=
  ∀ r < 256, 0 ≤ A r ∧ A r ≤ 1 ∧ ∀ h, A r * h + B r = steps a b (r - min (r % 8) (d - 1)) (min (r % 8) (d - 1) + 1) h

theorem ne_top_of_le_one {x : EReal} (h : x ≤ 1) : x ≠ ⊤ := fun e => absurd (e ▸ h) (not_le.mpr (EReal.coe_lt_top 1))

theorem does_one (a b : ℕ → EReal) (ha : ∀ r < 256, 0 ≤ a r ∧ a r ≤ 1) : Does a b a b 1 := by
  intro r hr
  refine ⟨(ha r hr).1, (ha r hr).2, fun h => ?_⟩
  simp [steps]

/-- One level of the in-group scan doubles how many steps each row does. -/
theorem does_double (a b A B A' B' : ℕ → EReal) (d : ℕ) (hd : 1 ≤ d)
    (h : Does a b A B d)
    (hA : ∀ r < 256, A' r = A r * (if d ≤ r % 8 then A (r - d) else 1))
    (hB : ∀ r < 256, B' r = A r * (if d ≤ r % 8 then B (r - d) else 0) + B r) :
    Does a b A' B' (2 * d) := by
  intro r hr
  obtain ⟨h0, h1, hs⟩ := h r hr
  rw [hA r hr, hB r hr]
  by_cases hc : d ≤ r % 8
  · rw [if_pos hc, if_pos hc]
    have hr8 : r % 8 ≤ r := Nat.mod_le _ _
    obtain ⟨g0, g1, gs⟩ := h (r - d) (by omega)
    refine ⟨mul_nonneg h0 g0, ?_, fun x => ?_⟩
    · calc A r * A (r - d) ≤ 1 * 1 := mul_le_mul h1 g1 g0 zero_le_one
        _ = 1 := one_mul 1
    · have e : A r * A (r - d) * x + (A r * B (r - d) + B r) = A r * (A (r - d) * x + B (r - d)) + B r := by
        rw [EReal.left_distrib_of_nonneg_of_ne_top h0 (ne_top_of_le_one h1), mul_assoc, add_assoc]
      rw [e, gs x, hs]
      have hm : (r - d) % 8 = r % 8 - d := by omega
      rw [hm]
      have e1 : min (r % 8) (2 * d - 1) + 1 = (min (r % 8 - d) (d - 1) + 1) + (min (r % 8) (d - 1) + 1) := by omega
      have e2 : r - min (r % 8) (2 * d - 1) = r - d - min (r % 8 - d) (d - 1) := by omega
      have e3 : r - d - min (r % 8 - d) (d - 1) + (min (r % 8 - d) (d - 1) + 1) = r - min (r % 8) (d - 1) := by omega
      have e4 := steps_add a b (r - d - min (r % 8 - d) (d - 1)) (min (r % 8 - d) (d - 1) + 1)
        (min (r % 8) (d - 1) + 1) x
      rw [e3] at e4
      rw [e1, e2, e4]
  · rw [if_neg hc, if_neg hc, mul_one, mul_zero, zero_add]
    refine ⟨h0, h1, fun x => ?_⟩
    rw [hs x]
    have e1 : min (r % 8) (2 * d - 1) = min (r % 8) (d - 1) := by omega
    rw [e1]

/-- After the three levels a row does every step from its group's first row on. -/
theorem does_group (a b A B : ℕ → EReal) (h : Does a b A B 8) (k p : ℕ) (hk : k < 32) (hp : p < 8) (x : EReal) :
    A (8 * k + p) * x + B (8 * k + p) = steps a b (8 * k) (p + 1) x := by
  rw [(h (8 * k + p) (by omega)).2.2 x]
  congr 1
  · omega
  · omega

end Cert.Pure

end
-- ==== Proof.Spec.lean ====
module

public import proofs.«01_k».proof.Proof.Pure
public import Idealize.ShloMosaic.Lib.Pointwise
public import Mathlib.Algebra.BigOperators.Fin

/-! The recurrence of one batch row, written over the extended reals: the causal convolution, the two gates, the decay
and the input term of each step, and the state after `n` steps. Both programs are shown to compute these. -/

@[expose] public section

noncomputable section

namespace Cert.Spec

open Idealize.ShloMosaic Cert.Pure

/-- The tanh form of the smooth gate. -/
def smooth (g : EReal) : EReal :=
  Ideal.ofBits .f32 0x3F000000#32 * g *
    (1 + Ideal.tanh (Ideal.ofBits .f32 0x3F4C422A#32 * (g + Ideal.ofBits .f32 0x3D372713#32 * (g * g * g))))

/-- The constant `-8` of the decay's exponent. -/
def minusEight : EReal := Ideal.ofBits .f32 0xC1000000#32

theorem minusEight_eq : minusEight = ((-8 : ℝ) : EReal) := by
  unfold minusEight
  simp [Ideal.ofBits, Ideal.ieee, -EReal.coe_mul, -EReal.coe_neg]
  norm_num

theorem two_eq : Ideal.ofBits .f32 0x40000000#32 = ((2 : ℝ) : EReal) := by
  simp [Ideal.ofBits, Ideal.ieee, -EReal.coe_mul]
  norm_num

section
variable (X : ℕ → Fin 512 → EReal) (cw : Fin 4 → Fin 512 → EReal) (cb : Fin 512 → EReal)
  (wr : Fin 8 → Fin 64 → Fin 64 → EReal) (br : Fin 512 → EReal) (wi : Fin 8 → Fin 64 → Fin 64 → EReal)
  (bi lam : Fin 512 → EReal)

/-- Row `n - 3`, zero before the first row. -/
def past (n : ℕ) (c : Fin 512) : EReal := if n < 3 then 0 else X (n - 3) c

/-- The causal convolution of width four at row `t`. -/
def conv (t : ℕ) (c : Fin 512) : EReal :=
  cb c + cw 0 c * past X t c + cw 1 c * past X (t + 1) c + cw 2 c * past X (t + 2) c + cw 3 c * X t c

/-- The block-diagonal projection of a row: column `c` sees the 64 columns of its own block. -/
def mix (w : Fin 8 → Fin 64 → Fin 64 → EReal) (f : Fin 512 → EReal) (c : Fin 512) : EReal :=
  ∑ d : Fin 64, f ⟨64 * (c.val / 64) + d.val, by omega⟩ * w ⟨c.val / 64, by omega⟩ d ⟨c.val % 64, Nat.mod_lt _ (by decide)⟩

/-- The exponent of the decay. -/
def expo (t : ℕ) (c : Fin 512) : EReal :=
  minusEight * gate (mix wr (conv X cw cb t) c + br c) * softplus (-(lam c))

/-- The decay. -/
def decay (c : Fin 512) (t : ℕ) : EReal := Ideal.exp (expo X cw cb wr br lam t c)

/-- The input term. -/
def term (c : Fin 512) (t : ℕ) : EReal :=
  Ideal.sqrt (-(Ideal.exp (((2 : ℝ) : EReal) * expo X cw cb wr br lam t c) - 1)) *
    gate (mix wi (conv X cw cb t) c + bi c) * conv X cw cb t c

/-- The state after `n` steps. -/
def state (c : Fin 512) (n : ℕ) : EReal :=
  steps (decay X cw cb wr br lam c) (term X cw cb wr br wi bi lam c) 0 n 0

theorem expo_nonpos (t : ℕ) (c : Fin 512) : expo X cw cb wr br lam t c ≤ 0 := by
  unfold expo
  rw [minusEight_eq]
  exact exponent_nonpos _ _ _ (by norm_num)

theorem decay_mem (c : Fin 512) (t : ℕ) :
    0 ≤ decay X cw cb wr br lam c t ∧ decay X cw cb wr br lam c t ≤ 1 :=
  ⟨exp_nonneg _, exp_le_one (expo_nonpos X cw cb wr br lam t c)⟩

theorem state_succ (c : Fin 512) (n : ℕ) :
    state X cw cb wr br wi bi lam c (n + 1) =
      decay X cw cb wr br lam c n * state X cw cb wr br wi bi lam c n + term X cw cb wr br wi bi lam c n := by
  show _ * _ + _ = _
  rw [Nat.zero_add]
  rfl

end

/-- A product with a block-diagonal matrix sees one block. -/
theorem sum_block (f : Fin 512 → EReal) (w : Fin 8 → Fin 64 → Fin 64 → EReal) (c : Fin 512) :
    (∑ j : Fin 512, f j * (if j.val / 64 = c.val / 64 then
        w ⟨c.val / 64, by omega⟩ ⟨j.val % 64, Nat.mod_lt _ (by decide)⟩ ⟨c.val % 64, Nat.mod_lt _ (by decide)⟩ else 0))
      = mix w f c := by
  unfold mix
  rw [← Equiv.sum_comp (finProdFinEquiv (m := 8) (n := 64)), Fintype.sum_prod_type]
  rw [Finset.sum_eq_single (⟨c.val / 64, by omega⟩ : Fin 8)]
  · refine Finset.sum_congr rfl fun d _ => ?_
    have e : (finProdFinEquiv ((⟨c.val / 64, by omega⟩ : Fin 8), d)).val = d.val + 64 * (c.val / 64) := rfl
    have e1 : (finProdFinEquiv ((⟨c.val / 64, by omega⟩ : Fin 8), d)).val / 64 = c.val / 64 := by rw [e]; omega
    have e2 : (⟨(finProdFinEquiv ((⟨c.val / 64, by omega⟩ : Fin 8), d)).val % 64, Nat.mod_lt _ (by decide)⟩ : Fin 64) = d := by
      apply Fin.ext
      show (finProdFinEquiv ((⟨c.val / 64, by omega⟩ : Fin 8), d)).val % 64 = d.val
      rw [e]; omega
    rw [if_pos e1, e2]
    congr 2
    apply Fin.ext
    show d.val + 64 * (c.val / 64) = _
    simp only
    omega
  · intro n _ hn
    refine Finset.sum_eq_zero fun d _ => ?_
    have e : (finProdFinEquiv (n, d)).val = d.val + 64 * n.val := rfl
    rw [if_neg, mul_zero]
    rw [e]
    intro h
    exact hn (Fin.ext (by show n.val = c.val / 64; omega))
  · intro h
    exact absurd (Finset.mem_univ _) h

/-! ## The two results, of the arrays -/

section
variable (x g : (⟨3, ![8, 4096, 512]⟩ : Shape).Idx → EReal) (cw : (⟨2, ![4, 512]⟩ : Shape).Idx → EReal)
  (cb : (⟨1, ![512]⟩ : Shape).Idx → EReal) (wr : (⟨3, ![8, 64, 64]⟩ : Shape).Idx → EReal)
  (br : (⟨1, ![512]⟩ : Shape).Idx → EReal) (wi : (⟨3, ![8, 64, 64]⟩ : Shape).Idx → EReal)
  (bi lam : (⟨1, ![512]⟩ : Shape).Idx → EReal)

/-- Batch row `b` of the input, by the row's number. -/
def rows (b : Fin 8) (t : ℕ) (c : Fin 512) : EReal := x (ix3 b ⟨t % 4096, Nat.mod_lt _ (by decide)⟩ c)

/-- The state of batch row `b`, channel `c`, after `n` steps, from the arrays. -/
def stateOf (b : Fin 8) (c : Fin 512) (n : ℕ) : EReal :=
  state (rows x b) (fun j c => cw (ix2 j c)) (fun c => cb (ix1 c)) (fun n d e => wr (ix3 n d e)) (fun c => br (ix1 c))
    (fun n d e => wi (ix3 n d e)) (fun c => bi (ix1 c)) (fun c => lam (ix1 c)) c n

/-- The gated states of all steps. -/
def gated : (⟨3, ![8, 4096, 512]⟩ : Shape).Idx → EReal := fun j =>
  stateOf x cw cb wr br wi bi lam (j 0) (j 2) ((j 1).val + 1) * smooth (g j)

/-- The state after the last step. -/
def last : (⟨3, ![8, 1, 512]⟩ : Shape).Idx → EReal := fun j =>
  stateOf x cw cb wr br wi bi lam (j 0) (j 2) 4096

end

end Cert.Spec

end
-- ==== Proof.Chunk.lean ====
module

public import proofs.«01_k».proof.Proof.Body
public import proofs.«01_k».proof.Proof.Spec
public import Idealize.ShloMosaic.Lib.Pointwise

/-! One chunk of 256 rows at the ideal operations: when the blocks hold chunk `k` of a batch row, and the carried buffers
the eight rows before it and the state before it, the body leaves the states of the recurrence. -/

@[expose] public section

noncomputable section

namespace Cert.KernelIdeal.Seq

open Idealize.ShloMosaic Cert.KernelIdeal.Gen Cert.Pure

/-! ## The body's pieces, read at an index -/

theorem pay14_apply (r : Fin 256) : k0_pay14 (ix2 r 0) = BitVec.ofNat 32 (r.val % 8) := by
  unfold_payloads
  pointwise
  revert r
  decide +kernel

theorem pay15_apply (r : Fin 256) : k0_pay15 (ix2 r 0) = if 1 ≤ r.val % 8 then 1#1 else 0#1 := by
  unfold k0_pay15
  pointwise
  rw [pay14_apply]
  revert r
  decide +kernel

theorem pay18_apply (r : Fin 256) : k0_pay18 (ix2 r 0) = if 2 ≤ r.val % 8 then 1#1 else 0#1 := by
  unfold k0_pay18
  pointwise
  rw [pay14_apply]
  revert r
  decide +kernel

theorem pay21_apply (r : Fin 256) : k0_pay21 k0_pay14 (ix2 r 0) = if 4 ≤ r.val % 8 then 1#1 else 0#1 := by
  unfold k0_pay21
  pointwise
  rw [pay14_apply]
  revert r
  decide +kernel

theorem select_ite (p : Prop) [Decidable p] (x y : EReal) :
    Scalar.select (if p then 1#1 else 0#1) x y = if p then x else y := by
  by_cases h : p
  · rw [if_pos h, if_pos h]; rfl
  · rw [if_neg h, if_neg h]; rfl

theorem mul_ite_one (p : Prop) [Decidable p] (x y : EReal) :
    (if p then x * y else x) = x * (if p then y else 1) := by
  by_cases h : p
  · rw [if_pos h, if_pos h]
  · rw [if_neg h, if_neg h, mul_one]

theorem mul_ite_nil (p : Prop) [Decidable p] (x y : EReal) :
    (if p then x * y else 0) = x * (if p then y else 0) := by
  by_cases h : p
  · rw [if_pos h, if_pos h]
  · rw [if_neg h, if_neg h, mul_zero]

/-- Column `c` of 256 rows, as a function of the row's number. -/
def col (v : FVec Ideal S256x512 .f32) (c : Fin 512) (r : ℕ) : EReal := v (ix2 ⟨r % 256, Nat.mod_lt _ (by decide)⟩ c)

theorem col_fin (v : FVec Ideal S256x512 .f32) (c : Fin 512) (r : ℕ) (h : r < 256) : col v c r = v (ix2 ⟨r, h⟩ c) := by
  unfold col
  congr 2
  exact Fin.ext (Nat.mod_eq_of_lt h)

theorem col_back (v : FVec Ideal S256x512 .f32) (c : Fin 512) (r d : ℕ) (h : r < 256) (hd : d ≤ r % 8) (hr : (r + 256 - d) % 256 < 256) :
    v (ix2 ⟨(r + 256 - d) % 256, hr⟩ c) = col v c (r - d) := by
  unfold col
  congr 2
  apply Fin.ext
  have := Nat.mod_le r 8
  show (r + 256 - d) % 256 = (r - d) % 256
  omega

theorem pay17_apply (v : FVec Ideal S256x512 .f32) (r : ℕ) (c : Fin 512) (hr : r < 256) :
    col (k0_pay17 v) c r = col v c r * (if 1 ≤ r % 8 then col v c (r - 1) else 1) := by
  rw [col_fin _ _ _ hr, col_fin _ _ _ hr]
  unfold k0_pay17
  pointwise
  rw [pay15_apply, select_ite]
  congr 1
  split_ifs with h
  · exact col_back v c r 1 hr h _
  · rfl

theorem pay20_apply (v : FVec Ideal S256x512 .f32) (r : ℕ) (c : Fin 512) (hr : r < 256) :
    col (k0_pay20 (k0_pay17 v) k0_pay18 (k0_pay19 v) (Scalar.ofBits .f32 0x3F800000#32)) c r
      = col (k0_pay17 v) c r * (if 2 ≤ r % 8 then col (k0_pay17 v) c (r - 2) else 1) := by
  rw [col_fin _ _ _ hr, col_fin _ _ _ hr]
  unfold k0_pay20 k0_pay19
  pointwise
  rw [pay18_apply, select_ite]
  congr 1
  split_ifs with h
  · exact col_back (k0_pay17 v) c r 2 hr h _
  · rfl

theorem pay22_apply (v : FVec Ideal S256x512 .f32) (i : IVec S256x1 1) (w : FVec Ideal S256x512 .f32) (x : Ideal .f32)
    (r : ℕ) (c : Fin 512) (hr : r < 256) :
    col (k0_pay22 k0_pay14 v i w x) c r
      = col (k0_pay20 v i w x) c r * (if 4 ≤ r % 8 then col (k0_pay20 v i w x) c (r - 4) else 1) := by
  rw [col_fin _ _ _ hr, col_fin _ _ _ hr]
  unfold k0_pay22
  pointwise
  rw [pay21_apply, select_ite]
  congr 1
  split_ifs with h
  · exact col_back (k0_pay20 v i w x) c r 4 hr h _
  · rfl

/-- The input term that the body forms before the scan, from the convolved rows, the gate, the decay and the hyperbolic
tangent of its exponent. -/
def base (x y z w : FVec Ideal S256x512 .f32) : FVec Ideal S256x512 .f32 := fun j =>
  Ideal.sqrt ((0 - w j) * (z j * z j + 1)) * y j * x j

theorem pay16_apply (x y z w : FVec Ideal S256x512 .f32) (r : ℕ) (c : Fin 512) (hr : r < 256) :
    col (k0_pay16 x y z w) c r
      = col z c r * (if 1 ≤ r % 8 then col (base x y z w) c (r - 1) else 0) + col (base x y z w) c r := by
  rw [col_fin _ _ _ hr, col_fin _ _ _ hr, col_fin _ _ _ hr]
  unfold k0_pay16
  pointwise
  rw [pay15_apply, select_ite, ← mul_ite_nil]
  refine congrArg₂ (· + ·) ?_ rfl
  split_ifs with h
  · rw [← col_back (base x y z w) c r 1 hr h (Nat.mod_lt _ (by decide))]
    rfl
  · rfl

/-- The second of the three levels of the scan of the input terms. -/
def second (v : FVec Ideal S256x512 .f32) (b : FVec Ideal S256x512 .f32) : FVec Ideal S256x512 .f32 := fun j =>
  Scalar.select (k0_pay18 (ix2 (j 0) 0)) (v j * b (ix2 ⟨((j 0).val + 256 - 2) % 256, Nat.mod_lt _ (by decide)⟩ (j 1))) 0 + b j

theorem second_apply (v b : FVec Ideal S256x512 .f32) (r : ℕ) (c : Fin 512) (hr : r < 256) :
    col (second v b) c r = col v c r * (if 2 ≤ r % 8 then col b c (r - 2) else 0) + col b c r := by
  rw [col_fin _ _ _ hr, col_fin _ _ _ hr, col_fin _ _ _ hr]
  unfold second
  simp only [ix2_0, ix2_1]
  rw [pay18_apply, select_ite, ← mul_ite_nil]
  refine congrArg₂ (· + ·) ?_ rfl
  split_ifs with h
  · rw [col_back b c r 2 hr h]
  · rfl

theorem pay23_apply (v b w : FVec Ideal S256x512 .f32) (x : Ideal .f32) (r : ℕ) (c : Fin 512) (hr : r < 256) :
    col (k0_pay23 k0_pay14 b v k0_pay18 w x) c r
      = col (k0_pay20 v k0_pay18 w x) c r * (if 4 ≤ r % 8 then col (second v b) c (r - 4) else 0) + col (second v b) c r := by
  rw [col_fin _ _ _ hr, col_fin _ _ _ hr, col_fin _ _ _ hr]
  unfold k0_pay23
  pointwise
  rw [pay21_apply, select_ite, ← mul_ite_nil]
  refine congrArg₂ (· + ·) ?_ rfl
  split_ifs with h
  · rw [← col_back (second v b) c r 4 hr h (Nat.mod_lt _ (by decide))]
    rfl
  · rfl

/-! ## The chunk -/

/-- The blocks and the carried rows hold chunk `k` of a batch row `X` and the parameters. -/
structure Holds (x : Vec Ideal S1x256x512 .f32) (cwv : Vec Ideal S4x512 .f32) (cbv : Vec Ideal S1x512 .f32)
    (wrv : Vec Ideal S512x512 .bf16) (brv : Vec Ideal S1x512 .f32) (wiv : Vec Ideal S512x512 .bf16)
    (biv lamv : Vec Ideal S1x512 .f32) (P : Vec Ideal S8x512 .f32)
    (X : ℕ → Fin 512 → EReal) (cw : Fin 4 → Fin 512 → EReal) (cb : Fin 512 → EReal)
    (wr : Fin 8 → Fin 64 → Fin 64 → EReal) (br : Fin 512 → EReal) (wi : Fin 8 → Fin 64 → Fin 64 → EReal)
    (bi lam : Fin 512 → EReal) (k : ℕ) : Prop where
  rows : ∀ r c, x (ix3 0 r c) = X (256 * k + r.val) c
  before : ∀ i c, P (ix2 i c) = if 256 * k + i.val < 8 then 0 else X (256 * k + i.val - 8) c
  taps : ∀ j c, cwv (ix2 j c) = cw j c
  tapBias : ∀ c, cbv (ix2 0 c) = cb c
  wr : ∀ j c, wrv (ix2 j c) = if j.val / 64 = c.val / 64 then
    wr ⟨c.val / 64, by omega⟩ ⟨j.val % 64, Nat.mod_lt _ (by decide)⟩ ⟨c.val % 64, Nat.mod_lt _ (by decide)⟩ else 0
  br : ∀ c, brv (ix2 0 c) = br c
  wi : ∀ j c, wiv (ix2 j c) = if j.val / 64 = c.val / 64 then
    wi ⟨c.val / 64, by omega⟩ ⟨j.val % 64, Nat.mod_lt _ (by decide)⟩ ⟨c.val % 64, Nat.mod_lt _ (by decide)⟩ else 0
  bi : ∀ c, biv (ix2 0 c) = bi c
  lam : ∀ c, lamv (ix2 0 c) = lam c

section
variable {x : Vec Ideal S1x256x512 .f32} {cwv : Vec Ideal S4x512 .f32} {cbv : Vec Ideal S1x512 .f32}
    {wrv : Vec Ideal S512x512 .bf16} {brv : Vec Ideal S1x512 .f32} {wiv : Vec Ideal S512x512 .bf16}
    {biv lamv : Vec Ideal S1x512 .f32} {P : Vec Ideal S8x512 .f32}
    {X : ℕ → Fin 512 → EReal} {cw : Fin 4 → Fin 512 → EReal} {cb : Fin 512 → EReal}
    {wr : Fin 8 → Fin 64 → Fin 64 → EReal} {br : Fin 512 → EReal} {wi : Fin 8 → Fin 64 → Fin 64 → EReal}
    {bi lam : Fin 512 → EReal} {k : ℕ}
    (h : Holds x cwv cbv wrv brv wiv biv lamv P X cw cb wr br wi bi lam k)
include h

theorem past_eq (s : ℕ) (hs : s < 8) (hs5 : 5 ≤ s) (r : Fin 256) (c : Fin 512)
    (h1 : s + r.val < 8 → s + r.val < 8) (h2 : ¬ s + r.val < 8 → s + r.val - 8 < 256) :
    (if h' : s + r.val < 8 then P (ix2 ⟨s + r.val, h1 h'⟩ c) else x (ix3 0 ⟨s + r.val - 8, h2 h'⟩ c))
      = Spec.past X (256 * k + r.val + (s - 5)) c := by
  unfold Spec.past
  split_ifs with h' h3 h3
  · rw [h.before, if_pos (by show 256 * k + (s + r.val) < 8; omega)]
  · rw [h.before, if_neg (by show ¬ 256 * k + (s + r.val) < 8; omega)]
    congr 1
    show 256 * k + (s + r.val) - 8 = _
    omega
  · omega
  · rw [h.rows]
    congr 1
    show 256 * k + (s + r.val - 8) = _
    omega

theorem conv_eq (r : Fin 256) (c : Fin 512) : k0_pay6 x P cwv cbv (ix2 r c) = Spec.conv X cw cb (256 * k + r.val) c := by
  unfold_payloads
  pointwise
  unfold Spec.conv
  rw [h.tapBias, h.taps, h.taps, h.taps, h.taps, h.rows]
  rw [past_eq h 5 (by decide) (by decide), past_eq h 6 (by decide) (by decide), past_eq h 7 (by decide) (by decide)]
  rfl

theorem mix_r_eq (r : Fin 256) (c : Fin 512) :
    k0_pay9 x P cwv cbv wrv (ix2 r c) = Spec.mix wr (Spec.conv X cw cb (256 * k + r.val)) c := by
  unfold k0_pay9 k0_pay8
  pointwise
  simp only [conv_eq h, h.wr]
  exact Spec.sum_block _ wr c

theorem gate_i_eq (r : Fin 256) (c : Fin 512) :
    k0_pay10 (k0_pay8 x P cwv cbv) wiv biv (ix2 r c)
      = gate (Spec.mix wi (Spec.conv X cw cb (256 * k + r.val)) c + bi c) := by
  unfold k0_pay10 k0_pay8
  pointwise
  simp only [conv_eq h, h.wi, h.bi]
  rw [Spec.sum_block _ wi c, zero_sub]
  rfl

theorem expo_eq (r : Fin 256) (c : Fin 512) :
    k0_pay11 (k0_pay9 x P cwv cbv wrv) brv lamv (ix2 r c) = Spec.expo X cw cb wr br lam (256 * k + r.val) c := by
  unfold k0_pay11
  pointwise
  rw [mix_r_eq h, h.br, h.lam, zero_sub, zero_sub, zero_sub]
  rfl

theorem decay_eq (r : Fin 256) (c : Fin 512) :
    logOf x cwv cbv wrv brv lamv P (ix2 r c) = Spec.decay X cw cb wr br lam c (256 * k + r.val) := by
  unfold logOf k0_pay12
  pointwise
  rw [expo_eq h]
  rfl

theorem base_eq (r : Fin 256) (c : Fin 512) :
    base (k0_pay6 x P cwv cbv) (k0_pay10 (k0_pay8 x P cwv cbv) wiv biv) (logOf x cwv cbv wrv brv lamv P)
        (k0_pay13 (k0_pay9 x P cwv cbv wrv) brv lamv) (ix2 r c)
      = Spec.term X cw cb wr br wi bi lam c (256 * k + r.val) := by
  unfold base Spec.term k0_pay13
  pointwise
  rw [conv_eq h, gate_i_eq h, decay_eq h, expo_eq h, scale_eq]
  rfl

/-- The scans of the three levels do the steps of a row's own group. -/
theorem scan_does (c : Fin 512) :
    Does (fun r => Spec.decay X cw cb wr br lam c (256 * k + r)) (fun r => Spec.term X cw cb wr br wi bi lam c (256 * k + r))
      (col (mulOf x cwv cbv wrv brv lamv P) c) (col (addOf x cwv cbv wrv brv wiv biv lamv P) c) 8 := by
  have d1 : Does (fun r => Spec.decay X cw cb wr br lam c (256 * k + r)) (fun r => Spec.term X cw cb wr br wi bi lam c (256 * k + r))
      (col (logOf x cwv cbv wrv brv lamv P) c)
      (col (base (k0_pay6 x P cwv cbv) (k0_pay10 (k0_pay8 x P cwv cbv) wiv biv) (logOf x cwv cbv wrv brv lamv P)
        (k0_pay13 (k0_pay9 x P cwv cbv wrv) brv lamv)) c) 1 := by
    have e := does_one (fun r => Spec.decay X cw cb wr br lam c (256 * k + r))
      (fun r => Spec.term X cw cb wr br wi bi lam c (256 * k + r)) (fun r _ => Spec.decay_mem X cw cb wr br lam c _)
    intro r hr
    rw [col_fin _ _ _ hr, col_fin _ _ _ hr, decay_eq h, base_eq h]
    exact e r hr
  have d2 := does_double _ _ _ _ _ _ 1 (by decide) d1 (fun r hr => pay17_apply _ r c hr)
    (fun r hr => pay16_apply _ _ _ _ r c hr)
  have d4 := does_double _ _ _ _ _ _ 2 (by decide) d2 (fun r hr => pay20_apply _ r c hr)
    (fun r hr => second_apply _ _ r c hr)
  exact does_double _ _ _ _ _ _ 4 (by decide) d4 (fun r hr => pay22_apply _ _ _ _ r c hr)
    (fun r hr => pay23_apply _ _ _ _ r c hr)

end

/-! ## The groups of eight rows -/

theorem rowsAt_apply (v : Vec Ideal S256x512 .f32) (j : ℕ) (p : Fin 8) (c : Fin 512) :
    rowsAt v j (ix2 p c) = col v c (8 * j + p.val) := by
  show v (ValueIdx.ix2 ⟨(8 * j + p.val) % 256, Nat.mod_lt _ (by decide)⟩ c) = _
  exact congrArg v (ix2_eq_valueIdx _ _).symm

theorem pay24_apply (y z w : Vec Ideal S8x512 .f32) (p : Fin 8) (c : Fin 512) :
    k0_pay24 (F := Ideal) y z w (ix2 p c) = z (ix2 p c) * y (ix2 p c) + w (ix2 p c) := by
  unfold_payloads
  pointwise

theorem pay25_apply (y z w : Vec Ideal S8x512 .f32) (p : Fin 8) (c : Fin 512) :
    k0_pay25 (F := Ideal) y z w (ix2 p c) = z (ix2 p c) * y (ix2 p c) + w (ix2 p c) := by
  unfold_payloads
  pointwise

theorem pay26_apply (y z w : Vec Ideal S8x512 .f32) (p : Fin 8) (c : Fin 512) :
    k0_pay26 (F := Ideal) y z w (ix2 p c) = z (ix2 7 c) * y (ix2 7 c) + w (ix2 7 c) := by
  unfold_payloads
  pointwise

theorem carry_eq (A B : Vec Ideal S256x512 .f32) (H : Vec Ideal S8x512 .f32) (c : Fin 512) (a b : ℕ → EReal)
    (hd : Does a b (col A c) (col B c) 8) (h0 : EReal) (hH : ∀ p, H (ix2 p c) = h0) (j : ℕ) (hj : j ≤ 32) (p : Fin 8) :
    carry A B H j (ix2 p c) = steps a b 0 (8 * j) h0 := by
  induction j generalizing p with
  | zero => exact hH p
  | succ j ih =>
    show k0_pay26 (carry A B H j) (rowsAt A j) (rowsAt B j) (ix2 p c) = _
    rw [pay26_apply, rowsAt_apply, rowsAt_apply, ih (by omega)]
    have e := does_group a b (col A c) (col B c) hd j 7 (by omega) (by decide) (steps a b 0 (8 * j) h0)
    have e2 := steps_add a b 0 (8 * j) 8 h0
    rw [Nat.zero_add] at e2
    exact e.trans e2.symm

theorem filled_eq (A B : Vec Ideal S256x512 .f32) (H : Vec Ideal S8x512 .f32) (c : Fin 512) (a b : ℕ → EReal)
    (hd : Does a b (col A c) (col B c) 8) (h0 : EReal) (hH : ∀ p, H (ix2 p c) = h0) (r : Fin 256) :
    filled A B H 32 (ix2 r c) = steps a b 0 (r.val + 1) h0 := by
  unfold filled
  rw [if_pos (by show r.val / 8 < 32; omega)]
  show k0_pay25 (F := Ideal) (carry A B H (r.val / 8)) (rowsAt A (r.val / 8)) (rowsAt B (r.val / 8))
    (ValueIdx.ix2 ⟨r.val % 8, Nat.mod_lt _ (by decide)⟩ c) = _
  rw [← ix2_eq_valueIdx, pay25_apply, rowsAt_apply, rowsAt_apply, carry_eq A B H c a b hd h0 hH _ (by omega)]
  have e := does_group a b (col A c) (col B c) hd (r.val / 8) (r.val % 8) (by omega) (by omega) (steps a b 0 (8 * (r.val / 8)) h0)
  refine e.trans ?_
  have e1 : r.val + 1 = 8 * (r.val / 8) + (r.val % 8 + 1) := by omega
  have e2 := steps_add a b 0 (8 * (r.val / 8)) (r.val % 8 + 1) h0
  rw [Nat.zero_add, ← e1] at e2
  exact e2.symm

section
variable {x : Vec Ideal S1x256x512 .f32} {cwv : Vec Ideal S4x512 .f32} {cbv : Vec Ideal S1x512 .f32}
    {wrv : Vec Ideal S512x512 .bf16} {brv : Vec Ideal S1x512 .f32} {wiv : Vec Ideal S512x512 .bf16}
    {biv lamv : Vec Ideal S1x512 .f32} {P H : Vec Ideal S8x512 .f32}
    {X : ℕ → Fin 512 → EReal} {cw : Fin 4 → Fin 512 → EReal} {cb : Fin 512 → EReal}
    {wr : Fin 8 → Fin 64 → Fin 64 → EReal} {br : Fin 512 → EReal} {wi : Fin 8 → Fin 64 → Fin 64 → EReal}
    {bi lam : Fin 512 → EReal} {k : ℕ}
    (h : Holds x cwv cbv wrv brv wiv biv lamv P X cw cb wr br wi bi lam k)
    (hH : ∀ p c, H (ix2 p c) = Spec.state X cw cb wr br wi bi lam c (256 * k))
include h hH

theorem steps_state (c : Fin 512) (n : ℕ) :
    steps (fun r => Spec.decay X cw cb wr br lam c (256 * k + r)) (fun r => Spec.term X cw cb wr br wi bi lam c (256 * k + r)) 0 n
      (Spec.state X cw cb wr br wi bi lam c (256 * k)) = Spec.state X cw cb wr br wi bi lam c (256 * k + n) := by
  unfold Spec.state
  rw [steps_add]
  apply steps_congr
  · intro j _; simp only [Nat.zero_add]
  · intro j _; simp only [Nat.zero_add]

/-- After the chunk the carried state is the state after its 256 rows. -/
theorem end_eq (p : Fin 8) (c : Fin 512) :
    endOf x cwv cbv wrv brv wiv biv lamv P H (ix2 p c) = Spec.state X cw cb wr br wi bi lam c (256 * (k + 1)) := by
  unfold endOf
  rw [carry_eq _ _ _ c _ _ (scan_does h c) _ (fun q => hH q c) 32 (by decide), steps_state h hH]
  rfl

theorem stateOf_eq (p : Fin 8) (c : Fin 512) :
    stateOf x cwv cbv wrv brv wiv biv lamv P H (ix2 p c) = Spec.state X cw cb wr br wi bi lam c (256 * (k + 1)) := by
  unfold stateOf k0_pay27
  pointwise
  exact end_eq h hH p c

theorem lastOf_eq (c : Fin 512) :
    lastOf x cwv cbv wrv brv wiv biv lamv P H (ix3 0 0 c) = Spec.state X cw cb wr br wi bi lam c (256 * (k + 1)) := by
  unfold lastOf k0_pay2
  pointwise
  exact end_eq h hH 0 c

/-- The first result's block: each row's state times the smooth gate of `g`. -/
theorem outOf_eq (g : Vec Ideal S1x256x512 .f32) (r : Fin 256) (c : Fin 512) :
    outOf x cwv cbv wrv brv wiv biv lamv P H g (ix3 0 r c)
      = Spec.state X cw cb wr br wi bi lam c (256 * k + r.val + 1) * Spec.smooth (g (ix3 0 r c)) := by
  unfold outOf k0_pay1
  pointwise
  rw [filled_eq _ _ _ c _ _ (scan_does h c) _ (fun q => hH q c), steps_state h hH]
  rfl

end

theorem left_eq {x : Vec Ideal S1x256x512 .f32} (X : ℕ → Fin 512 → EReal) (k : ℕ)
    (hx : ∀ r c, x (ix3 0 r c) = X (256 * k + r.val) c) (i : Fin 8) (c : Fin 512) :
    k0_pay7 (F := Ideal) x (ix2 i c) = if 256 * (k + 1) + i.val < 8 then 0 else X (256 * (k + 1) + i.val - 8) c := by
  unfold_payloads
  pointwise
  rw [hx, if_neg (by omega)]
  congr 1
  show 256 * k + (248 + i.val) = _
  omega

end Cert.KernelIdeal.Seq

end
-- ==== Proof.KernelValue.lean ====
module

public import proofs.«01_k».proof.Proof.Run
public import proofs.«01_k».proof.Proof.Chunk
public import Idealize.ShloMosaic.Lib.Pipeline.ValueKit
public import Idealize.ShloMosaic.Lib.Claim

/-! The kernel's two results at the ideal operations: the gated states of all steps and the state after the last. -/

@[expose] public section

set_option maxRecDepth 16384

noncomputable section

namespace Cert.KernelIdeal.Seq

open Idealize.ShloMosaic Idealize.ShloMosaic.TcCoe Idealize.ShloMosaic.Tactic
open Cert.KernelIdeal.Gen

variable (m : (ℓ : Loc nD τ sig) → Buf (Elt Ideal) ℓ)

/-! ## The windows' blocks -/

theorem idx : ∀ t : Fin grid0.N,
    win0_0.index t = ![t.val / 16, t.val % 16, 0] ∧ win0_1.index t = ![t.val / 16, t.val % 16, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧
    win0_9.index t = ![t.val / 16, 0, 0] ∧ win0_10.index t = ![t.val / 16, 0, 0] ∧
    win0_11.index t = ![t.val / 16, t.val % 16, 0] ∧ win0_12.index t = ![t.val / 16, 0, 0] := by
  decide +kernel

theorem t_lt (t : Fin cfg0.N) : t.val < 128 := Nat.lt_of_lt_of_eq t.isLt (by decide)

/-- The batch row of a grid point. -/
def batch (t : Fin cfg0.N) : Fin 8 := ⟨t.val / 16, by have := t_lt t; omega⟩

theorem blk_rows (c : Dev nD) (t : Fin cfg0.N) (r : Fin 256) (ch : Fin 512) :
    iblk m c 0 t (ix3 0 r ch) = Spec.rows (m ((c : Thread nD τ).loc main_arg0)) (batch t) (256 * (t.val % 16) + r.val) ch := by
  have := t_lt t
  unfold Spec.rows batch
  blk_ext [iblk, V_main_arg0, (idx t).1]

theorem blk_gate (c : Dev nD) (t : Fin cfg0.N) (r : Fin 256) (ch : Fin 512) (h : 256 * (t.val % 16) + r.val < 4096) :
    iblk m c 1 t (ix3 0 r ch) = m ((c : Thread nD τ).loc main_arg1) (ix3 (batch t) ⟨256 * (t.val % 16) + r.val, h⟩ ch) := by
  have := t_lt t
  unfold batch
  blk_ext [iblk, V_main_arg1, (idx t).2.1]

theorem blk_taps (c : Dev nD) (t : Fin cfg0.N) (j : Fin 4) (ch : Fin 512) :
    iblk m c 2 t (ix2 j ch) = m ((c : Thread nD τ).loc main_arg2) (ix2 j ch) := by
  blk_ext [iblk, V_main_arg2, (idx t).2.2.1]

theorem eye_word : ∀ a b : Fin 8, IntOp.cmpi .eq (IntOp.addi (BitVec.ofNat 32 a.val) 0#32) (BitVec.ofNat 32 b.val)
    = if a.val = b.val then 1#1 else 0#1 := by decide +kernel

/-- An entry of the eight by eight identity, by the numbers of the row and the column. -/
theorem eye_val (a b : ℕ) (ha : a < 8) (hb : b < 8) :
    (FloatOps.uitofp .f32 (IntOp.cmpi .eq (IntOp.addi (BitVec.ofNat 32 a) 0#32) (BitVec.ofNat 32 b)) : Ideal .f32)
      = if a = b then (1 : EReal) else 0 := by
  rw [eye_word ⟨a, ha⟩ ⟨b, hb⟩]
  show FloatOps.uitofp .f32 (if a = b then 1#1 else 0#1) = _
  split_ifs
  · show (((1#1 : BitVec 1).toNat : ℝ) : EReal) = 1
    simp
  · show (((0#1 : BitVec 1).toNat : ℝ) : EReal) = 0
    simp

theorem blk_tapBias (c : Dev nD) (t : Fin cfg0.N) (ch : Fin 512) :
    iblk m c 3 t (ix2 0 ch) = m ((c : Thread nD τ).loc main_arg3) (ix1 ch) := by
  have e : iblk m c 3 t (ix2 0 ch) = V m c main_v0 (ix2 0 ch) := by blk_ext [iblk, (idx t).2.2.2.1]
  rw [e]
  entry_read
  pointwise

theorem blk_wr (c : Dev nD) (t : Fin cfg0.N) (j ch : Fin 512) :
    iblk m c 4 t (ix2 j ch) = if j.val / 64 = ch.val / 64 then
      (m ((c : Thread nD τ).loc main_arg4) (ix3 ⟨ch.val / 64, by omega⟩ ⟨j.val % 64, Nat.mod_lt _ (by decide)⟩ ⟨ch.val % 64, Nat.mod_lt _ (by decide)⟩) : EReal)
      else (0 : EReal) := by
  have e : iblk m c 4 t (ix2 j ch) = V m c main_v13 (ix2 j ch) := by blk_ext [iblk, (idx t).2.2.2.2.1]
  rw [e]
  entry_read
  pointwise
  rw [eye_val _ _ (by omega) (by omega)]
  split_ifs with h
  · rw [one_mul]
    exact congrArg (m ((c : Thread nD τ).loc main_arg4)) (congrArg (fun n => ix3 n _ _) (Fin.ext h))
  · rw [zero_mul]

theorem blk_br (c : Dev nD) (t : Fin cfg0.N) (ch : Fin 512) :
    iblk m c 5 t (ix2 0 ch) = m ((c : Thread nD τ).loc main_arg5) (ix1 ch) := by
  have e : iblk m c 5 t (ix2 0 ch) = V m c main_v14 (ix2 0 ch) := by blk_ext [iblk, (idx t).2.2.2.2.2.1]
  rw [e]
  entry_read
  pointwise

theorem blk_wi (c : Dev nD) (t : Fin cfg0.N) (j ch : Fin 512) :
    iblk m c 6 t (ix2 j ch) = if j.val / 64 = ch.val / 64 then
      (m ((c : Thread nD τ).loc main_arg6) (ix3 ⟨ch.val / 64, by omega⟩ ⟨j.val % 64, Nat.mod_lt _ (by decide)⟩ ⟨ch.val % 64, Nat.mod_lt _ (by decide)⟩) : EReal)
      else (0 : EReal) := by
  have e : iblk m c 6 t (ix2 j ch) = V m c main_v27 (ix2 j ch) := by blk_ext [iblk, (idx t).2.2.2.2.2.2.1]
  rw [e]
  entry_read
  pointwise
  rw [eye_val _ _ (by omega) (by omega)]
  split_ifs with h
  · rw [one_mul]
    exact congrArg (m ((c : Thread nD τ).loc main_arg6)) (congrArg (fun n => ix3 n _ _) (Fin.ext h))
  · rw [zero_mul]

theorem blk_bi (c : Dev nD) (t : Fin cfg0.N) (ch : Fin 512) :
    iblk m c 7 t (ix2 0 ch) = m ((c : Thread nD τ).loc main_arg7) (ix1 ch) := by
  have e : iblk m c 7 t (ix2 0 ch) = V m c main_v28 (ix2 0 ch) := by blk_ext [iblk, (idx t).2.2.2.2.2.2.2.1]
  rw [e]
  entry_read
  pointwise

theorem blk_lam (c : Dev nD) (t : Fin cfg0.N) (ch : Fin 512) :
    iblk m c 8 t (ix2 0 ch) = m ((c : Thread nD τ).loc main_arg8) (ix1 ch) := by
  have e : iblk m c 8 t (ix2 0 ch) = V m c main_v29 (ix2 0 ch) := by blk_ext [iblk, (idx t).2.2.2.2.2.2.2.2.1]
  rw [e]
  entry_read
  pointwise

theorem blk_before (c : Dev nD) (t : Fin cfg0.N) (i : Fin 8) (ch : Fin 512) : iblk m c 9 t (ix3 0 i ch) = (0 : EReal) := by
  have := t_lt t
  have e : iblk m c 9 t (ix3 0 i ch) = V m c main_v30 (ix3 (batch t) i ch) := by
    unfold batch
    blk_ext [iblk, (idx t).2.2.2.2.2.2.2.2.2.1]
  rw [e]
  entry_read
  pointwise

theorem blk_state (c : Dev nD) (t : Fin cfg0.N) (ch : Fin 512) : iblk m c 10 t (ix3 0 0 ch) = (0 : EReal) := by
  have := t_lt t
  have e : iblk m c 10 t (ix3 0 0 ch) = V m c main_v31 (ix3 (batch t) 0 ch) := by
    unfold batch
    blk_ext [iblk, (idx t).2.2.2.2.2.2.2.2.2.2.1]
  rw [e]
  entry_read
  pointwise

/-! ## What a chunk finds -/

section
variable (c : Dev nD)

/-- A result's state, of the launch memory. -/
abbrev stateAt (b : Fin 8) (ch : Fin 512) (n : ℕ) : EReal :=
  Spec.stateOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) b ch n

/-- The blocks of a point and the rows `P` before it hold the point's chunk. -/
abbrev HoldsAt (t : Fin cfg0.N) (P : Vec Ideal S8x512 .f32) : Prop :=
  Holds (iblk m c 0 t) (iblk m c 2 t) (iblk m c 3 t) (iblk m c 4 t) (iblk m c 5 t) (iblk m c 6 t) (iblk m c 7 t) (iblk m c 8 t) P
    (Spec.rows (m ((c : Thread nD τ).loc main_arg0)) (batch t))
    (fun j ch => m ((c : Thread nD τ).loc main_arg2) (ix2 j ch)) (fun ch => m ((c : Thread nD τ).loc main_arg3) (ix1 ch))
    (fun n d e => m ((c : Thread nD τ).loc main_arg4) (ix3 n d e)) (fun ch => m ((c : Thread nD τ).loc main_arg5) (ix1 ch))
    (fun n d e => m ((c : Thread nD τ).loc main_arg6) (ix3 n d e)) (fun ch => m ((c : Thread nD τ).loc main_arg7) (ix1 ch))
    (fun ch => m ((c : Thread nD τ).loc main_arg8) (ix1 ch)) (t.val % 16)

theorem holds_at (t : Fin cfg0.N) (P : Vec Ideal S8x512 .f32)
    (hP : ∀ i ch, P (ix2 i ch) = if 256 * (t.val % 16) + i.val < 8 then 0
      else Spec.rows (m ((c : Thread nD τ).loc main_arg0)) (batch t) (256 * (t.val % 16) + i.val - 8) ch) : HoldsAt m c t P where
  rows := blk_rows m c t
  before := hP
  taps := blk_taps m c t
  tapBias := blk_tapBias m c t
  wr := blk_wr m c t
  br := blk_br m c t
  wi := blk_wi m c t
  bi := blk_bi m c t
  lam := blk_lam m c t

theorem start_first (t : Fin cfg0.N) (h : t.val % 16 = 0) :
    HoldsAt m c t (start m c t.val t.isLt).1 ∧
      ∀ p ch, (start m c t.val t.isLt).2 (ix2 p ch) = stateAt m c (batch t) ch (256 * (t.val % 16)) := by
  rw [start_reset m c t h]
  refine ⟨holds_at m c _ _ fun i ch => ?_, fun p ch => ?_⟩
  · rw [if_pos (by rw [h]; omega)]
    show k0_pay3 (iblk m c 9 t) (ix2 i ch) = _
    unfold_payloads
    pointwise
    exact blk_before m c t i ch
  · rw [h]
    show k0_pay4 (iblk m c 10 t) (ix2 p ch) = _
    unfold_payloads
    pointwise
    exact blk_state m c t ch

/-- Entering a point, the carried buffers hold the eight rows before the point's chunk and the state before it. -/
theorem start_eq (n : ℕ) (hn : n < cfg0.N) :
    HoldsAt m c ⟨n, hn⟩ (start m c n hn).1 ∧
      ∀ p ch, (start m c n hn).2 (ix2 p ch) = stateAt m c (batch ⟨n, hn⟩) ch (256 * (n % 16)) := by
  induction n with
  | zero => exact start_first m c ⟨0, hn⟩ rfl
  | succ n ih =>
    by_cases h : (n + 1) % 16 = 0
    · exact start_first m c ⟨n + 1, hn⟩ h
    · have hb : batch ⟨n + 1, hn⟩ = batch ⟨n, Nat.lt_of_succ_lt hn⟩ := Fin.ext (by show (n + 1) / 16 = n / 16; omega)
      have hk : (n + 1) % 16 = n % 16 + 1 := by omega
      obtain ⟨i1, i2⟩ := ih (Nat.lt_of_succ_lt hn)
      rw [start_carry m c n hn h]
      refine ⟨holds_at m c _ _ fun i ch => ?_, fun p ch => ?_⟩
      · have e : leftP m c ⟨n, Nat.lt_of_succ_lt hn⟩ (ix2 i ch) = if 256 * (n % 16 + 1) + i.val < 8 then 0
            else Spec.rows (m ((c : Thread nD τ).loc main_arg0)) (batch ⟨n, Nat.lt_of_succ_lt hn⟩) (256 * (n % 16 + 1) + i.val - 8) ch :=
          left_eq _ _ (blk_rows m c ⟨n, Nat.lt_of_succ_lt hn⟩) i ch
        rw [← hk, ← hb] at e
        exact e
      · have e : leftH m c ⟨n, Nat.lt_of_succ_lt hn⟩ (ix2 p ch)
            = stateAt m c (batch ⟨n, Nat.lt_of_succ_lt hn⟩) ch (256 * (n % 16 + 1)) := stateOf_eq i1 i2 p ch
        rw [← hk, ← hb] at e
        exact e

end

/-! ## The results -/

theorem out_eq (c : Dev nD) : (dats m 0 c).arrAt 11 cfg0.N
    = Spec.gated (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 11 _ (by decide +kernel) fun t hf y => ?_
  have ht := t_lt t
  blk_simp
  rw [after_11]
  have key : ∀ (r : Fin 256) (ch : Fin 512), outAt m c t (ix3 0 r ch)
      = Spec.gated (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ((win0_11.blk t).view.emb (ix3 0 r ch)) := by
    intro r ch
    have hl : 256 * (t.val % 16) + r.val < 4096 := by have := r.isLt; omega
    have e : (win0_11.blk t).view.emb (ix3 0 r ch) = ix3 (batch t) ⟨256 * (t.val % 16) + r.val, hl⟩ ch := by
      unfold batch
      blk_ext [(idx t).2.2.2.2.2.2.2.2.2.2.2.1]
    rw [e]
    have h := start_eq m c t.val t.isLt
    refine (outOf_eq h.1 h.2 (iblk m c 1 t) r ch).trans ?_
    rw [blk_gate m c t r ch hl]
    rfl
  have hy : y = ix3 (0 : Fin 1) (y 1) (y 2) := by
    refine (eq_ix3 y).trans ?_
    congr 1
    exact Fin.ext (Nat.lt_one_iff.mp (y 0).isLt)
  rw [hy]
  exact key (y 1) (y 2)

theorem last_eq (c : Dev nD) : (dats m 0 c).arrAt 12 cfg0.N
    = Spec.last (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 12 _ (by decide +kernel) fun t hf y => ?_
  have ht := t_lt t
  blk_simp
  rw [after_12]
  have h15 : t.val % 16 = 15 := (flush0_12 t).mp hf
  have key : ∀ ch : Fin 512, lastAt m c t (ix3 0 0 ch)
      = Spec.last (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ((win0_12.blk t).view.emb (ix3 0 0 ch)) := by
    intro ch
    have e : (win0_12.blk t).view.emb (ix3 0 0 ch) = ix3 (batch t) 0 ch := by
      unfold batch
      blk_ext [(idx t).2.2.2.2.2.2.2.2.2.2.2.2]
    rw [e]
    have h := start_eq m c t.val t.isLt
    have e1 : lastAt m c t (ix3 0 0 ch) = stateAt m c (batch t) ch (256 * (t.val % 16 + 1)) := lastOf_eq h.1 h.2 ch
    rw [h15] at e1
    exact e1
  have hy : y = ix3 (0 : Fin 1) (0 : Fin 1) (y 2) := by
    refine (eq_ix3 y).trans ?_
    congr 1
    · exact Fin.ext (Nat.lt_one_iff.mp (y 0).isLt)
    · exact Fin.ext (Nat.lt_one_iff.mp (y 1).isLt)
  rw [hy]
  exact key (y 2)

end Cert.KernelIdeal.Seq
-- ==== Proof.RefRun.lean ====
module

public import proofs.«01_k».proof.Proof.Gen.ReferenceIdeal.Run
public import proofs.«01_k».proof.Proof.Gen.ReferenceIdeal.Step

/-! The reference's run as one step iterated: the loop's buffers after `k` trips hold the `k`-th state, and the results
are read off the state after 4096 trips. -/

@[expose] public section

noncomputable section

namespace Cert.ReferenceIdeal.Rec

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s`, and its counter the number `j`. -/
structure At (V0 : Valuation τ sig (Elt F)) (s : State F) (j : ℕ) : Prop where
  h : V0 (Proc.devRef .tc main_v76_3) = s.main_v76_3
  hs : V0 (Proc.devRef .tc main_v76_4) = s.main_v76_4
  a : V0 (Proc.devRef .tc main_v76_0) = s.main_v76_0
  b : V0 (Proc.devRef .tc main_v76_1) = s.main_v76_1
  count : V0 (Proc.devRef .tc main_v76_2) = constantI S_ 32 (BitVec.ofNat 32 j)

section
variable {V0 : Valuation τ sig (Elt F)} {s : State F} {j : ℕ} (h : At V0 s j)
include h

set_option maxRecDepth 8192 in
/-- One trip's new state vector. -/
theorem next_h : res_main_while0b_v97 V0 = Step.b9 j s := by
  unfold res_main_while0b_v97 Step.b9 Step.b8 Step.b7 Step.b6 Step.b5 Step.b4 Step.b3 Step.b2 Step.b1 Step.b0
  rw [h.h, h.a, h.b, h.count]
  rfl

set_option maxRecDepth 8192 in
/-- One trip's new array of states. -/
theorem next_hs : step_main_v76_4 V0 = Step.b13 j s := by
  unfold step_main_v76_4 Step.b13 Step.b12 Step.b11 Step.b10
  rw [← next_h h, ← h.hs, ← h.count]
  rfl

theorem next_count : step_main_v76_2 V0 = constantI S_ 32 (BitVec.ofNat 32 (j + 1)) := by
  unfold step_main_v76_2
  rw [h.count]
  funext i
  exact (BitVec.ofNat_add j 1).symm

/-- A trip goes on by one step. -/
theorem at_step : At (STEP V0) (step j s) (j + 1) where
  h := (STEP_main_v76_3 V0).trans (next_h h)
  hs := (STEP_main_v76_4 V0).trans (next_hs h)
  a := (STEP_main_v76_0 V0).trans h.a
  b := (STEP_main_v76_1 V0).trans h.b
  count := (STEP_main_v76_2 V0).trans (next_count h)

end

variable (m : (ℓ : Loc nD τ sig) → Buf (Elt F) ℓ)

/-- The state that the first trip finds. -/
abbrev first (c : Dev nD) : State F :=
  init (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

/-- The state after `k` trips. -/
def after_trips (c : Dev nD) : ℕ → State F
  | 0 => first m c
  | k + 1 => step k (after_trips c k)

set_option maxRecDepth 65536 in
set_option maxHeartbeats 500000 in
theorem at_first (c : Dev nD) : At (entryContents preI m c) (first m c) 0 := by
  constructor <;> (simp only [entryContents, afterL_cons, afterL_nil]; after_reads_simp) <;> rfl

theorem at_trips (c : Dev nD) : ∀ k, At (STEP^[k] (entryContents preI m c)) (after_trips m c k) k
  | 0 => at_first m c
  | k + 1 => by
    rw [Function.iterate_succ_apply']
    exact at_step (at_trips c k)

set_option maxRecDepth 8192 in
theorem gated_of {V0 : Valuation τ sig (Elt F)} {s : State F} {j : ℕ} (h : At V0 s j) (g : (⟨S8x4096x512, .f32⟩ : BufTy).Contents (Elt F))
    (hg : V0 (Proc.devRef .tc main_arg1) = g) : out_main_v92 V0 = Step.R_main_v92 s g := by
  unfold out_main_v92 Step.R_main_v92
  rw [h.hs, hg]
  try rfl

set_option maxRecDepth 8192 in
theorem last_of {V0 : Valuation τ sig (Elt F)} {s : State F} {j : ℕ} (h : At V0 s j) : out_main_v93 V0 = Step.R_main_v93 s := by
  unfold out_main_v93 Step.R_main_v93
  rw [h.h]
  try rfl

/-- The reference's run: its two results read off the state after 4096 trips, every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v92) = Step.R_main_v92 (after_trips m c 4096) (m ((c.tc : Thread nD τ).loc main_arg1))
      ∧ r.2.mem ((c.tc : Thread nD τ).loc main_v93) = Step.R_main_v93 (after_trips m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c).1.trans (gated_of (at_trips m c 4096) _ (iter_main_arg1 m c 4096)), (h c).2.1.trans (last_of (at_trips m c 4096)), (h c).2.2⟩)
    (Value.run m ρ)

end Cert.ReferenceIdeal.Rec

end
-- ==== Proof.RefValue.lean ====
module

public import proofs.«01_k».proof.Proof.RefRun
public import proofs.«01_k».proof.Proof.Spec
public import Idealize.ShloMosaic.Lib.Pointwise

/-! What the reference computes: its arrays read at an index are the convolution, the decay and the input term of the
recurrence, its loop's state after `n` trips is the state after `n` steps, and its results are the gated states and the
last state. -/

@[expose] public section

noncomputable section

namespace Cert.ReferenceIdeal.Rec

open Idealize.ShloMosaic Idealize.ShloMosaic.TcCoe Cert.ReferenceIdeal Cert.Pure Cert.ReferenceIdeal.Step

section
variable (x : (⟨S8x4096x512, .f32⟩ : BufTy).Contents (Elt Ideal)) (cw : (⟨S4x512, .f32⟩ : BufTy).Contents (Elt Ideal))
  (cb : (⟨S512, .f32⟩ : BufTy).Contents (Elt Ideal)) (wr : (⟨S8x64x64, .f32⟩ : BufTy).Contents (Elt Ideal))
  (br : (⟨S512, .f32⟩ : BufTy).Contents (Elt Ideal)) (wi : (⟨S8x64x64, .f32⟩ : BufTy).Contents (Elt Ideal))
  (bi lam : (⟨S512, .f32⟩ : BufTy).Contents (Elt Ideal))

/-- The convolution of batch row `b`, of the arrays. -/
abbrev convOf (b : Fin 8) : ℕ → Fin 512 → EReal :=
  Spec.conv (Spec.rows x b) (fun j c => cw (ix2 j c)) (fun c => cb (ix1 c))

theorem zero_f32 : Ideal.ofBits .f32 0#32 = 0 := by simp [Ideal.ofBits, Ideal.ieee]

theorem rows_eq (b : Fin 8) (n : ℕ) (h : n < 4096) (c : Fin 512) : Spec.rows x b n c = x (ix3 b ⟨n, h⟩ c) := by
  unfold Spec.rows
  congr 2
  exact Fin.ext (Nat.mod_eq_of_lt h)

theorem past_eq (b : Fin 8) (n : ℕ) (h : n - 3 < 4096) (c : Fin 512) :
    Spec.past (Spec.rows x b) n c = if n < 3 then 0 else x (ix3 b ⟨n - 3, h⟩ c) := by
  unfold Spec.past
  rw [rows_eq x b (n - 3) h c]

theorem conv_apply (b : Fin 8) (t : Fin 4096) (c : Fin 512) :
    A_main_v32 x cw cb wr br wi bi lam (ix3 b t c) = convOf x cw cb b t c := by
  simp only [A_main_v32, A_main_v31, A_main_v30, A_main_v29, A_main_v28, A_main_v27, A_main_v26, A_main_v25, A_main_v24,
    A_main_v23, A_main_v22, A_main_v21, A_main_v20, A_main_v19, A_main_v18, A_main_v17, A_main_v16, A_main_v15, A_main_v14,
    A_main_v13, A_main_v12, A_main_v11, A_main_v10, A_main_v9, A_main_v8, A_main_v7, A_main_v6, A_main_v5, A_main_v4,
    A_main_v3, A_main_v2, K_main_v0, K_main_cst]
  pointwise
  unfold convOf Spec.conv
  rw [past_eq x b t (by omega), past_eq x b (t + 1) (by omega), past_eq x b (t + 2) (by omega), rows_eq x b t t.isLt]
  simp only [zero_f32, Nat.add_comm 1, Nat.add_comm 2]
  rfl

theorem mix_apply (w : (⟨S8x64x64, .f32⟩ : BufTy).Contents (Elt Ideal)) (b : Fin 8) (t : Fin 4096) (c : Fin 512) :
    (∑ d : Fin 64, w (ix3 ⟨c.val / 64, by omega⟩ d ⟨c.val % 64, Nat.mod_lt _ (by decide)⟩) *
        A_main_v32 x cw cb wr br wi bi lam (ix3 b t ⟨c.val / 64 * 64 + d.val, by omega⟩))
      = Spec.mix (fun n d e => w (ix3 n d e)) (convOf x cw cb b t) c := by
  unfold Spec.mix
  refine Finset.sum_congr rfl fun d _ => ?_
  rw [conv_apply, mul_comm]
  congr 2
  exact Fin.ext (by show c.val / 64 * 64 + d.val = 64 * (c.val / 64) + d.val; omega)

theorem open_apply (b : Fin 8) (t : Fin 4096) (c : Fin 512) :
    A_main_v45 x cw cb wr br wi bi lam (ix3 b t c)
      = gate (Spec.mix (fun n d e => wr (ix3 n d e)) (convOf x cw cb b t) c + br (ix1 c)) := by
  simp only [A_main_v45, A_main_v43, A_main_v41, A_main_v40, A_main_v39, A_main_v38, A_main_v37, A_main_v36, A_main_v35,
    A_main_v34, A_main_v33, K_main_v44, K_main_v42, K_main_cst_1, K_main_cst_2]
  pointwise
  rw [mix_apply x cw cb wr br wi bi lam wr b t c]
  rfl

theorem input_apply (b : Fin 8) (t : Fin 4096) (c : Fin 512) :
    A_main_v57 x cw cb wr br wi bi lam (ix3 b t c)
      = gate (Spec.mix (fun n d e => wi (ix3 n d e)) (convOf x cw cb b t) c + bi (ix1 c)) := by
  simp only [A_main_v57, A_main_v55, A_main_v53, A_main_v52, A_main_v51, A_main_v50, A_main_v49, A_main_v48, A_main_v47,
    A_main_v46, A_main_v33, K_main_v54, K_main_v56, K_main_cst_3, K_main_cst_4]
  pointwise
  rw [mix_apply x cw cb wr br wi bi lam wi b t c]
  rfl

/-- The exponent of batch row `b`, of the arrays. -/
abbrev expoOf (b : Fin 8) : ℕ → Fin 512 → EReal :=
  Spec.expo (Spec.rows x b) (fun j c => cw (ix2 j c)) (fun c => cb (ix1 c)) (fun n d e => wr (ix3 n d e))
    (fun c => br (ix1 c)) (fun c => lam (ix1 c))

theorem expo_apply (b : Fin 8) (t : Fin 4096) (c : Fin 512) :
    A_main_v64 x cw cb wr br wi bi lam (ix3 b t c) = expoOf x cw cb wr br lam b t c := by
  simp only [A_main_v64, A_main_v63, A_main_v62, A_main_v61, A_main_call0_v11, A_main_call0_v10, A_main_call0_v9,
    A_main_call0_v8, A_main_call0_v7, A_main_call0_v6, A_main_call0_v4, A_main_call0_v3, A_main_call0_v1, A_main_v60,
    A_main_v59, K_main_v58, K_main_cst_5, K_main_call0_v0, K_main_call0_v2, K_main_call0_v5, K_main_call0_cst]
  pointwise
  rw [open_apply]
  simp only [ne_eq, not_true_eq_false, if_false, zero_f32, sub_zero]
  rfl

/-- The decay of batch row `b`, of the arrays. -/
abbrev decayOf (b : Fin 8) (c : Fin 512) : ℕ → EReal :=
  Spec.decay (Spec.rows x b) (fun j c => cw (ix2 j c)) (fun c => cb (ix1 c)) (fun n d e => wr (ix3 n d e))
    (fun c => br (ix1 c)) (fun c => lam (ix1 c)) c

/-- The input term of batch row `b`, of the arrays. -/
abbrev termOf (b : Fin 8) (c : Fin 512) : ℕ → EReal :=
  Spec.term (Spec.rows x b) (fun j c => cw (ix2 j c)) (fun c => cb (ix1 c)) (fun n d e => wr (ix3 n d e))
    (fun c => br (ix1 c)) (fun n d e => wi (ix3 n d e)) (fun c => bi (ix1 c)) (fun c => lam (ix1 c)) c

theorem decay_apply (t : Fin 4096) (b : Fin 8) (c : Fin 512) :
    A_main_v73 x cw cb wr br wi bi lam (ix3 t b c) = decayOf x cw cb wr br lam b c t := by
  simp only [A_main_v73, A_main_v65]
  pointwise
  rw [expo_apply]
  rfl

theorem term_apply (t : Fin 4096) (b : Fin 8) (c : Fin 512) :
    A_main_v74 x cw cb wr br wi bi lam (ix3 t b c) = termOf x cw cb wr br wi bi lam b c t := by
  simp only [A_main_v74, A_main_v72, A_main_v71, A_main_v70, A_main_v69, A_main_v68, A_main_v67, K_main_v66, K_main_cst_6]
  pointwise
  rw [expo_apply, input_apply, conv_apply, Spec.two_eq]
  rfl

end

/-! ## One trip at an index -/

theorem start_row (h : S1x8x512.rank = S4096x8x512.rank) (j : ℕ) (hj : j < 4096) (st : Fin 3 → Int) (e : st 0 = j) :
    Host.clampedStart S4096x8x512 S1x8x512 h st 0 = j := by
  have e1 : S1x8x512.size ((0 : Fin S4096x8x512.rank).cast h.symm) = 1 := rfl
  have e2 : S4096x8x512.size 0 = 4096 := rfl
  refine Host.clampedStart_of_le h st 0 j e ?_
  rw [e1, e2]
  exact hj

theorem start_one (h : S1x8x512.rank = S4096x8x512.rank) (st : Fin 3 → Int) (e : st 1 = (0 : ℕ)) :
    Host.clampedStart S4096x8x512 S1x8x512 h st 1 = 0 := by
  have e1 : S1x8x512.size ((1 : Fin S4096x8x512.rank).cast h.symm) = 8 := rfl
  have e2 : S4096x8x512.size 1 = 8 := rfl
  refine Host.clampedStart_of_le h st 1 0 e ?_
  rw [e1, e2]

theorem start_two (h : S1x8x512.rank = S4096x8x512.rank) (st : Fin 3 → Int) (e : st 2 = (0 : ℕ)) :
    Host.clampedStart S4096x8x512 S1x8x512 h st 2 = 0 := by
  have e1 : S1x8x512.size ((2 : Fin S4096x8x512.rank).cast h.symm) = 512 := rfl
  have e2 : S4096x8x512.size 2 = 512 := rfl
  refine Host.clampedStart_of_le h st 2 0 e ?_
  rw [e1, e2]

theorem count_toInt (j : ℕ) (hj : j < 4096) : (BitVec.ofNat 32 j).toInt = (j : Int) := by
  rw [BitVec.toInt_eq_toNat_of_lt] <;> rw [BitVec.toNat_ofNat, Nat.mod_eq_of_lt] <;> omega

/-- The corner of the row that trip `j` reads and writes. -/
abbrev corner (j : ℕ) : Fin 3 → Int := fun k =>
  ((![constantI S_ 32 (BitVec.ofNat 32 j), constantI S_ 32 0#32, constantI S_ 32 0#32] :
    Fin 3 → (⟨S_, .i32⟩ : BufTy).Contents (Elt Ideal)) k (Shape.Idx.first Gen.h_S_)).toInt

theorem corner_zero (j : ℕ) (hj : j < 4096) : corner j 0 = j := count_toInt j hj
theorem corner_one (j : ℕ) : corner j 1 = (0 : ℕ) := by
  show (0#32 : BitVec 32).toInt = _
  decide
theorem corner_two (j : ℕ) : corner j 2 = (0 : ℕ) := by
  show (0#32 : BitVec 32).toInt = _
  decide

/-- The slice that trip `j` takes is row `j`. -/
theorem row_apply (x : S4096x8x512.Idx → EReal) (j : ℕ) (hj : j < 4096) (h : S4096x8x512.Slices (fun _ => 0) S1x8x512) (b : Fin 8) (c : Fin 512) :
    Host.dynamicSlice S1x8x512 x (corner j) h (ix3 0 b c) = x (ix3 ⟨j, hj⟩ b c) := by
  rw [Host.dynamicSlice_apply]
  congr 1
  funext a
  apply Fin.ext
  have e0 := start_row h.1 j hj (corner j) (corner_zero j hj)
  have e1 := start_one h.1 (corner j) (corner_one j)
  have e2 := start_two h.1 (corner j) (corner_two j)
  fin_cases a
  · exact congrArg (· + 0) e0
  · exact (congrArg (· + b.val) e1).trans (Nat.zero_add _)
  · exact (congrArg (· + c.val) e2).trans (Nat.zero_add _)

/-- The write of trip `j` changes row `j`. -/
theorem write_apply (x : S4096x8x512.Idx → EReal) (u : S1x8x512.Idx → EReal) (j : ℕ) (hj : j < 4096)
    (h : S4096x8x512.Slices (fun _ => 0) S1x8x512) (t : Fin 4096) (b : Fin 8) (c : Fin 512) :
    Host.dynamicUpdateSlice x u (corner j) h (ix3 t b c) = if t.val = j then u (ix3 0 b c) else x (ix3 t b c) := by
  have e0 := start_row h.1 j hj (corner j) (corner_zero j hj)
  have e1 := start_one h.1 (corner j) (corner_one j)
  have e2 := start_two h.1 (corner j) (corner_two j)
  rw [Host.dynamicUpdateSlice_apply]
  by_cases ht : t.val = j
  · rw [if_pos ht, dif_pos]
    · congr 1
      funext a
      apply Fin.ext
      fin_cases a
      · exact (congrArg (t.val - ·) e0).trans (by show t.val - j = 0; omega)
      · exact (congrArg (b.val - ·) e1).trans (Nat.sub_zero _)
      · exact (congrArg (c.val - ·) e2).trans (Nat.sub_zero _)
    · intro a
      fin_cases a
      · exact ⟨(le_of_eq e0).trans ht.ge, lt_of_lt_of_eq (Nat.lt_succ_of_le ht.le) (congrArg (· + 1) e0.symm)⟩
      · exact ⟨(le_of_eq e1).trans (Nat.zero_le _), lt_of_lt_of_le b.isLt (Nat.le_add_left _ _)⟩
      · exact ⟨(le_of_eq e2).trans (Nat.zero_le _), lt_of_lt_of_le c.isLt (Nat.le_add_left _ _)⟩
  · rw [if_neg ht, dif_neg]
    intro ha
    have h0 : Host.clampedStart S4096x8x512 S1x8x512 h.1 (corner j) 0 ≤ t.val ∧
        t.val < Host.clampedStart S4096x8x512 S1x8x512 h.1 (corner j) 0 + 1 := ha 0
    omega

theorem b9_apply (j : ℕ) (hj : j < 4096) (s : State Ideal) (b : Fin 8) (c : Fin 512) :
    b9 j s (ix2 b c) = s.main_v76_0 (ix3 ⟨j, hj⟩ b c) * s.main_v76_3 (ix2 b c) + s.main_v76_1 (ix3 ⟨j, hj⟩ b c) := by
  have ea : b3 j s (ix2 b c) = b2 j s (ix3 0 b c) := by unfold b3; pointwise
  have eb : b7 j s (ix2 b c) = b6 j s (ix3 0 b c) := by unfold b7; pointwise
  rw [← row_apply s.main_v76_0 j hj Gen.sliceFits_S4096x8x512_S1x8x512 b c,
    ← row_apply s.main_v76_1 j hj Gen.sliceFits_S4096x8x512_S1x8x512 b c]
  exact congrArg₂ (fun p q => p * s.main_v76_3 (ix2 b c) + q) ea eb

theorem b13_apply (j : ℕ) (hj : j < 4096) (s : State Ideal) (t : Fin 4096) (b : Fin 8) (c : Fin 512) :
    b13 j s (ix3 t b c) = if t.val = j then b9 j s (ix2 b c) else s.main_v76_4 (ix3 t b c) := by
  have e : b10 j s (ix3 0 b c) = b9 j s (ix2 b c) := by unfold b10; pointwise
  exact (write_apply s.main_v76_4 (b10 j s) j hj Gen.updateFits_S4096x8x512_S1x8x512 t b c).trans (by rw [e])

/-! ## The loop -/

variable (m : (ℓ : Loc nD τ sig) → Buf (Elt Ideal) ℓ)

/-- The state of the recurrence, of the arguments. -/
abbrev want (c : Dev nD) : Fin 8 → Fin 512 → ℕ → EReal :=
  Spec.stateOf (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

theorem trips (c : Dev nD) : ∀ n, n ≤ 4096 →
    (after_trips m c n).main_v76_0 = (first m c).main_v76_0 ∧ (after_trips m c n).main_v76_1 = (first m c).main_v76_1 ∧
      (∀ b k, (after_trips m c n).main_v76_3 (ix2 b k) = want m c b k n) ∧
      ∀ (t : Fin 4096) b k, t.val < n → (after_trips m c n).main_v76_4 (ix3 t b k) = want m c b k (t.val + 1)
  | 0, _ => by
    refine ⟨rfl, rfl, fun b k => ?_, fun t b k h => absurd h (Nat.not_lt_zero _)⟩
    show K_main_v1 (F := Ideal) (ix2 b k) = 0
    simp only [K_main_v1, K_main_cst_0]
    pointwise
  | n + 1, hn => by
    obtain ⟨ha, hb, hh, hs⟩ := trips c n (by omega)
    have hv : ∀ b k, b9 n (after_trips m c n) (ix2 b k) = want m c b k (n + 1) := fun b k => by
      rw [b9_apply n (by omega), ha, hb, hh]
      refine Eq.trans ?_ (Spec.state_succ _ _ _ _ _ _ _ _ _ _).symm
      exact congrArg₂ (fun p q => p * want m c b k n + q) (decay_apply _ _ _ _ _ _ _ _ ⟨n, by omega⟩ b k)
        (term_apply _ _ _ _ _ _ _ _ ⟨n, by omega⟩ b k)
    refine ⟨ha, hb, hv, fun t b k ht => ?_⟩
    show b13 n (after_trips m c n) (ix3 t b k) = _
    rw [b13_apply n (by omega)]
    by_cases e : t.val = n
    · rw [if_pos e, hv, e]
    · rw [if_neg e]
      exact hs t b k (by omega)

theorem smooth_eq (h g : EReal) : h * (g * (Ideal.ofBits .f32 0x3F000000#32 * (1 + Ideal.tanh (Ideal.ofBits .f32 0x3F4C422A#32 *
    (g + Ideal.ofBits .f32 0x3D372713#32 * (g * g * g)))))) = h * Spec.smooth g := by
  unfold Spec.smooth
  rw [← mul_assoc g, mul_comm g]

/-- The reference's first result: the gated states. -/
theorem gated_eq (c : Dev nD) : Step.R_main_v92 (after_trips m c 4096) (m ((c.tc : Thread nD τ).loc main_arg1))
    = Spec.gated (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  funext i
  obtain ⟨b, t, k, rfl⟩ : ∃ (b : Fin 8) (t : Fin 4096) (k : Fin 512), i = ix3 b t k := ⟨i 0, i 1, i 2, eq_ix3 i⟩
  simp only [R_main_v92]
  pointwise
  rw [(trips m c 4096 le_rfl).2.2.2 t b k t.isLt]
  exact smooth_eq _ _

/-- The reference's second result: the state after the last step. -/
theorem last_eq (c : Dev nD) : Step.R_main_v93 (after_trips m c 4096)
    = Spec.last (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  funext i
  obtain ⟨b, t, k, rfl⟩ : ∃ (b : Fin 8) (t : Fin 1) (k : Fin 512), i = ix3 b t k := ⟨i 0, i 1, i 2, eq_ix3 i⟩
  simp only [R_main_v93]
  pointwise
  exact (trips m c 4096 le_rfl).2.2.1 b k

end Cert.ReferenceIdeal.Rec

end
-- ==== Proof.SeqClaims.lean ====
module

public import proofs.«01_k».proof.Defs
public import proofs.«01_k».proof.Proof.Gen.Kernel
public import proofs.«01_k».proof.Proof.Run
public import proofs.«01_k».proof.Proof.KernelValue
public import proofs.«01_k».proof.Proof.RefValue
public import Idealize.ShloMosaic.Lib.Quiescent

/-! The claims about the recurrence: the frames of the program at bit patterns and at extended reals and of its reference,
and the equality of their results. -/

@[expose] public section

noncomputable section

namespace Cert.Proof

open Idealize.ShloMosaic Idealize.ShloMosaic.TcCoe Idealize.SL.Sem

section
attribute [local instance] Cert.Kernel.Gen.facts Cert.KernelIdeal.Gen.facts

set_option maxHeartbeats 4000000 in
/-- The two programs' kernels are one text. -/
theorem body_same : Cert.Kernel.defs₀ (F := Bits) = Cert.KernelIdeal.defs₀ := by
  unfold Cert.Kernel.defs₀ Cert.KernelIdeal.defs₀
  refine congrArg Defs.onTc ?_
  funext l x
  obtain ⟨l, hl⟩ := l
  cases l with
  | succ n => exact absurd hl (Nat.not_lt.2 (Nat.le_add_left _ _))
  | zero =>
    obtain ⟨t, s⟩ := x
    exact (rfl : Cert.Kernel.cc0_rglru_seq (F := Bits) _ _ _ _ _ _ _ _ _ _ _ _ _ _ _ _ _ _ _ _ _ _ _ _ _ _ _ _ _ _ _ _ _ _ _
      = Cert.KernelIdeal.cc0_rglru_seq (F := Bits) _ _ _ _ _ _ _ _ _ _ _ _ _ _ _ _ _ _ _ _ _ _ _ _ _ _ _ _ _ _ _ _ _ _ _)

theorem defs_same : Cert.Kernel.defs (F := Bits) = Cert.KernelIdeal.defs := congrArg (Pipeline.defs Cert.KernelIdeal.pcfgs) body_same

set_option maxHeartbeats 4000000 in
theorem main_same : Cert.Kernel.main (F := Bits) = Cert.KernelIdeal.main := rfl

end

set_option maxHeartbeats 4000000 in
theorem frame_kernel : Cert.quiescent_Kernel (hKernel := Cert.Kernel.Gen.facts) := fun m ρ _ => by
  rw [defs_same, main_same]
  exact Cert.KernelIdeal.Seq.frame_any (F := Bits) m ρ

theorem frame_kernelIdeal : Cert.quiescent_KernelIdeal (hKernelIdeal := Cert.KernelIdeal.Gen.facts) := fun m ρ _ =>
  Cert.KernelIdeal.Seq.frame_any (F := Ideal) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems rfl r.2⟩)
    (Cert.ReferenceIdeal.Rec.run (F := Ideal) m ρ)

theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => Spec.gated (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => Spec.last (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(((h.1).1 c).1 11).trans (Cert.KernelIdeal.Seq.out_eq m c), (((h.1).1 c).1 12).trans (Cert.KernelIdeal.Seq.last_eq m c), h.2.1 c⟩)
      (θ_run_and (Cert.KernelIdeal.Seq.run_quiescent (F := Ideal) m ρ) (Cert.KernelIdeal.Seq.frame_any (F := Ideal) m ρ))
  · refine (θ_run Cert.ReferenceIdeal.defs _ _).mono (fun r h c => ?_) (Cert.ReferenceIdeal.Rec.run (F := Ideal) m' ρ')
    obtain ⟨a0, a1, a2, a3, a4, a5, a6, a7, a8⟩ := hargs c
    refine ⟨(h c).1.trans ((Cert.ReferenceIdeal.Rec.gated_eq m' c).trans ?_), (h c).2.1.trans ((Cert.ReferenceIdeal.Rec.last_eq m' c).trans ?_), (h c).2.2⟩
    · rw [a0, a1, a2, a3, a4, a5, a6, a7, a8]
    · rw [a0, a2, a3, a4, a5, a6, a7, a8]

end Cert.Proof

end
-- ==== Proof.MergeSpec.lean ====
module

public import proofs.«01_k».proof.Proof.Pure
public import Idealize.ShloMosaic.Lib.Pointwise
public import Mathlib.Algebra.BigOperators.Fin

/-! One row of the merge and of the feed-forward part, written plainly: the two branches are projected, gated and added, projected
back onto the residual row, and the normalised row goes through the gated feed-forward part. -/

@[expose] public section

noncomputable section

namespace Cert.Merge

open Idealize.ShloMosaic Cert.Pure

/-- The gated sum of the two projected branches. -/
def mixed (oa ob : Fin 512 → EReal) (ga gb : Fin 1024 → EReal) (wa wb : Fin 512 → Fin 1024 → EReal) (j : Fin 1024) : EReal :=
  gate (ga j) * (∑ k, oa k * wa k j) + gate (gb j) * (∑ k, ob k * wb k j)

/-- The residual row with a row `m` projected onto it. -/
def mid (x m : Fin 1024 → EReal) (wo : Fin 1024 → Fin 1024 → EReal) (j : Fin 1024) : EReal := x j + ∑ k, m k * wo k j

/-- The row divided by the root of its mean square, scaled. -/
def normed (v g : Fin 1024 → EReal) (j : Fin 1024) : EReal :=
  v j * Ideal.rsqrt (Ideal.div (∑ k, v k * v k) (Ideal.ofBits .f32 0x44800000#32) + Ideal.ofBits .f32 0x358637BD#32) * g j

/-- One entry of the gated hidden row, from the two columns of weights. -/
def act (h : Fin 1024 → EReal) (wg wu : Fin 1024 → EReal) : EReal :=
  (∑ k, h k * wg k) * gate (∑ k, h k * wg k) * ∑ k, h k * wu k

/-- The feed-forward part's row, added to the residual row. -/
def out (v g : Fin 1024 → EReal) (wg wu : Fin 1024 → Fin 2816 → EReal) (wd : Fin 2816 → Fin 1024 → EReal) (j : Fin 1024) : EReal :=
  v j + ∑ f, act (normed v g) (fun k => wg k f) (fun k => wu k f) * wd f j

/-- A sum over all hidden entries, in the eleven stretches of 256. -/
theorem sum_split (f : Fin 2816 → EReal) : ∑ i, f i = ∑ l : Fin 11, ∑ q : Fin 256, f ⟨256 * l.val + q.val, by omega⟩ := by
  rw [← Fintype.sum_prod_type (fun p : Fin 11 × Fin 256 => f ⟨256 * p.1.val + p.2.val, by omega⟩)]
  refine (Fintype.sum_equiv (finProdFinEquiv (m := 11) (n := 256)) _ _ fun p => ?_).symm
  refine congrArg f (Fin.ext ?_)
  show 256 * p.1.val + p.2.val = p.2.val + 256 * p.1.val
  omega

/-- The sum over the 256 hidden entries from `o` on. -/
def stretch (f : Fin 2816 → EReal) (o : ℕ) (h : o + 256 ≤ 2816) : EReal := ∑ q : Fin 256, f ⟨o + q.val, by omega⟩

theorem sum_eleven (f : Fin 2816 → EReal) : ∑ i, f i
    = stretch f 0 (by decide) + stretch f 256 (by decide) + stretch f 512 (by decide) + stretch f 768 (by decide)
      + stretch f 1024 (by decide) + stretch f 1280 (by decide) + stretch f 1536 (by decide) + stretch f 1792 (by decide)
      + stretch f 2048 (by decide) + stretch f 2304 (by decide) + stretch f 2560 (by decide) := by
  have e : ∀ g : Fin 11 → EReal, ∑ l, g l = g 0 + g 1 + g 2 + g 3 + g 4 + g 5 + g 6 + g 7 + g 8 + g 9 + g 10 := fun g => by
    rw [Fin.sum_univ_castSucc, Fin.sum_univ_castSucc, Fin.sum_univ_castSucc, Fin.sum_univ_eight]
    rfl
  rw [sum_split]
  exact e _

/-- The merge of one row, from the arrays: row `n` of the result is row `n % 4096` of batch row `n / 4096`. -/
def result (x : (⟨3, ![8, 4096, 1024]⟩ : Shape).Idx → EReal) (oa ob : (⟨3, ![8, 4096, 512]⟩ : Shape).Idx → EReal)
    (ga gb : (⟨3, ![8, 4096, 1024]⟩ : Shape).Idx → EReal) (wa wb : (⟨2, ![512, 1024]⟩ : Shape).Idx → EReal)
    (wo : (⟨2, ![1024, 1024]⟩ : Shape).Idx → EReal) (g : (⟨1, ![1024]⟩ : Shape).Idx → EReal)
    (wg wu : (⟨2, ![1024, 2816]⟩ : Shape).Idx → EReal) (wd : (⟨2, ![2816, 1024]⟩ : Shape).Idx → EReal) :
    (⟨2, ![32768, 1024]⟩ : Shape).Idx → EReal := fun i =>
  have b : Fin 8 := ⟨(i 0).val / 4096, Nat.div_lt_of_lt_mul (i 0).isLt⟩
  have s : Fin 4096 := ⟨(i 0).val % 4096, Nat.mod_lt _ (by decide)⟩
  out (mid (fun k => x (ix3 b s k)) (mixed (fun k => oa (ix3 b s k)) (fun k => ob (ix3 b s k)) (fun k => ga (ix3 b s k))
    (fun k => gb (ix3 b s k)) (fun k j => wa (ix2 k j)) (fun k j => wb (ix2 k j))) (fun k j => wo (ix2 k j)))
    (fun k => g (ix1 k)) (fun k f => wg (ix2 k f)) (fun k f => wu (ix2 k f)) (fun f j => wd (ix2 f j)) (i 1)

end Cert.Merge

end
-- ==== Proof.MergeBlock.lean ====
module

public import proofs.«01_k».proof.Proof.MergeSpec
public import proofs.«01_k».proof.Proof.Gen.Kernel2Ideal.Frame
public import Idealize.ShloMosaic.Lib.Pipeline.ValueKit
public import Idealize.ShloMosaic.Lib.Claim

/-! What one block of rows becomes: the body's value at a row and a column is the plain row of Proof/MergeSpec.lean. -/

@[expose] public section

set_option maxRecDepth 16384

noncomputable section

namespace Cert.Kernel2Ideal.Block

open Idealize.ShloMosaic Idealize.ShloMosaic.TcCoe Idealize.ShloMosaic.Tactic Cert.Pure Cert.Merge
open Cert.Kernel2Ideal.Gen

theorem pay3_apply (v0 : Vec Ideal S512x512 .bf16) (v2 : Vec Ideal S512x1024 .bf16) (v5 : Vec Ideal S512x512 .bf16)
    (v7 : Vec Ideal S512x1024 .bf16) (v10 v20 : Vec Ideal S512x1024 .f32) (r : Fin 512) (j : Fin 1024) :
    k0_pay3 v0 v2 v5 v7 v10 v20 (ix2 r j)
      = mixed (fun k => v0 (ix2 r k)) (fun k => v5 (ix2 r k)) (fun k => v10 (ix2 r k)) (fun k => v20 (ix2 r k))
        (fun k i => v2 (ix2 k i)) (fun k i => v7 (ix2 k i)) j := by
  unfold k0_pay3
  pointwise
  unfold mixed gate
  simp only [zero_sub]

theorem pay4_apply (v32 : FVec Ideal S512x1024 .f32) (v33 : FVec Ideal S512x1024 .bf16) (v34 : Vec Ideal S1024x1024 .bf16)
    (r : Fin 512) (j : Fin 1024) :
    k0_pay4 v32 v33 v34 (ix2 r j) = mid (fun k => v32 (ix2 r k)) (fun k => v33 (ix2 r k)) (fun k i => v34 (ix2 k i)) j := by
  unfold k0_pay4
  pointwise
  unfold mid
  rfl

theorem pay5_apply (v32 : FVec Ideal S512x1024 .f32) (v33 : FVec Ideal S512x1024 .bf16) (v34 : Vec Ideal S1024x1024 .bf16)
    (v48 : Vec Ideal S1x1024 .f32) (r : Fin 512) (j : Fin 1024) :
    k0_pay5 v32 v33 v34 v48 (ix2 r j)
      = normed (fun k => k0_pay4 v32 v33 v34 (ix2 r k)) (fun k => v48 (ix2 0 k)) j := by
  unfold k0_pay5
  generalize k0_pay4 v32 v33 v34 = v
  pointwise
  unfold normed
  rfl

/-- What one stretch of 256 hidden entries adds. -/
abbrev part (h : FVec Ideal S512x1024 .bf16) (a b : Vec Ideal S1024x256 .bf16) (d : Vec Ideal S256x1024 .bf16) (r : Fin 512)
    (j : Fin 1024) : EReal :=
  ∑ q : Fin 256, act (fun k => h (ix2 r k)) (fun k => a (ix2 k q)) (fun k => b (ix2 k q)) * d (ix2 q j)

theorem pay6_apply (v32 : FVec Ideal S512x1024 .f32) (v33 : FVec Ideal S512x1024 .bf16) (v34 : Vec Ideal S1024x1024 .bf16)
    (v48 : Vec Ideal S1x1024 .f32) (a b : Vec Ideal S1024x256 .bf16) (d : Vec Ideal S256x1024 .bf16) (r : Fin 512) (j : Fin 1024) :
    k0_pay6 v32 v33 v34 v48 a b d (ix2 r j) = k0_pay4 v32 v33 v34 (ix2 r j) + part (k0_pay5 v32 v33 v34 v48) a b d r j := by
  unfold k0_pay6
  generalize k0_pay5 v32 v33 v34 v48 = h
  generalize k0_pay4 v32 v33 v34 = y
  pointwise
  unfold part act gate
  simp only [zero_sub]

theorem pay8_apply (h : FVec Ideal S512x1024 .bf16) (y : FVec Ideal S512x1024 .f32) (a b : Vec Ideal S1024x256 .bf16) (d : Vec Ideal S256x1024 .bf16) (a1 b1 : Vec Ideal S1024x256 .bf16) (d1 : Vec Ideal S256x1024 .bf16) (r : Fin 512) (j : Fin 1024) :
    k0_pay8 h y (k0_pay7 a) b d a1 b1 d1 (ix2 r j) = y (ix2 r j) + part h a b d r j + part h a1 b1 d1 r j := by
  unfold k0_pay8 k0_pay7
  pointwise
  unfold part act gate
  simp only [zero_sub]

theorem pay9_apply (h : FVec Ideal S512x1024 .bf16) (y : FVec Ideal S512x1024 .f32) (a b : Vec Ideal S1024x256 .bf16) (d : Vec Ideal S256x1024 .bf16) (r : Fin 512) (j : Fin 1024) :
    k0_pay9 h y a b d (ix2 r j) = y (ix2 r j) + part h a b d r j := by
  unfold k0_pay9
  pointwise
  unfold part act gate
  simp only [zero_sub]

theorem pay11_apply (h : FVec Ideal S512x1024 .bf16) (y : FVec Ideal S512x1024 .f32) (a b : Vec Ideal S1024x256 .bf16) (d : Vec Ideal S256x1024 .bf16) (a1 b1 : Vec Ideal S1024x256 .bf16) (d1 : Vec Ideal S256x1024 .bf16) (r : Fin 512) (j : Fin 1024) :
    k0_pay11 h y (k0_pay10 h a b) d a1 b1 d1 (ix2 r j) = y (ix2 r j) + part h a b d r j + part h a1 b1 d1 r j := by
  unfold k0_pay11 k0_pay10
  pointwise
  unfold part act gate
  simp only [zero_sub]

theorem pay13_apply (h : FVec Ideal S512x1024 .bf16) (y : FVec Ideal S512x1024 .f32) (a b : Vec Ideal S1024x256 .bf16) (d : Vec Ideal S256x1024 .bf16) (a1 b1 : Vec Ideal S1024x256 .bf16) (d1 : Vec Ideal S256x1024 .bf16) (r : Fin 512) (j : Fin 1024) :
    k0_pay13 h y (k0_pay12 h a b) d a1 b1 d1 (ix2 r j) = y (ix2 r j) + part h a b d r j + part h a1 b1 d1 r j := by
  unfold k0_pay13 k0_pay12
  pointwise
  unfold part act gate
  simp only [zero_sub]

theorem pay17_apply (h : FVec Ideal S512x1024 .bf16) (y : FVec Ideal S512x1024 .f32) (a b : Vec Ideal S1024x256 .bf16) (d : Vec Ideal S256x1024 .bf16) (a1 b1 : Vec Ideal S1024x256 .bf16) (d1 : Vec Ideal S256x1024 .bf16) (r : Fin 512) (j : Fin 1024) :
    k0_pay17 h y (k0_pay14 h a) (k0_pay15 h b) (k0_pay16 h a) (Scalar.ofBits .f32 0x3F800000#32) d a1 b1 d1 (ix2 r j) = y (ix2 r j) + part h a b d r j + part h a1 b1 d1 r j := by
  unfold k0_pay17 k0_pay16 k0_pay15 k0_pay14
  pointwise
  unfold part act gate
  simp only [zero_sub]

theorem pay1_apply (h : FVec Ideal S512x1024 .bf16) (y : FVec Ideal S512x1024 .f32) (a b : Vec Ideal S1024x256 .bf16) (d : Vec Ideal S256x1024 .bf16) (r : Fin 512) (j : Fin 1024) :
    k0_pay1 y (k0_pay18 h a) (k0_pay19 h b) (k0_pay20 h a) d (ix2 r j) = y (ix2 r j) + part h a b d r j := by
  unfold k0_pay1 k0_pay20 k0_pay19 k0_pay18
  pointwise
  unfold part act gate
  simp only [zero_sub]

/-- The load of 256 columns from `o` on. -/
theorem cols (x : Vec Ideal S1024x2816 .bf16) (o : ℕ) (inb) (h : o + 256 ≤ 2816) (k : Fin 1024) (q : Fin 256) :
    View.ld x (Rect.unit (s := S1024x2816) ![0, o] S1024x256.size inb) (ix2 k q) = x (ix2 k ⟨o + q.val, by omega⟩) :=
  View.ld_unit_apply_of x _ _ _ _ _ fun a => match a with
    | ⟨0, _⟩ => (Nat.zero_add _).symm
    | ⟨1, _⟩ => rfl
    | ⟨_ + 2, h⟩ => absurd h (Nat.not_lt.2 (Nat.le_add_left _ _))

/-- The load of 256 rows from `o` on. -/
theorem lines (x : Vec Ideal S2816x1024 .bf16) (o : ℕ) (inb) (h : o + 256 ≤ 2816) (q : Fin 256) (i : Fin 1024) :
    View.ld x (Rect.unit (s := S2816x1024) ![o, 0] S256x1024.size inb) (ix2 q i) = x (ix2 ⟨o + q.val, by omega⟩ i) :=
  View.ld_unit_apply_of x _ _ _ _ _ fun a => match a with
    | ⟨0, _⟩ => rfl
    | ⟨1, _⟩ => (Nat.zero_add _).symm
    | ⟨_ + 2, h⟩ => absurd h (Nat.not_lt.2 (Nat.le_add_left _ _))

section
variable (x0 : Vec Ideal S512x1024 .f32) (x1 x2 : Vec Ideal S512x512 .bf16) (x3 x4 : Vec Ideal S512x1024 .f32)
  (x5 x6 : Vec Ideal S512x1024 .bf16) (x7 : Vec Ideal S1024x1024 .bf16) (x8 : Vec Ideal S1x1024 .f32)
  (x9 x10 : Vec Ideal S1024x2816 .bf16) (x11 : Vec Ideal S2816x1024 .bf16)

/-- The residual row of a block's row. -/
abbrev midAt (r : Fin 512) : Fin 1024 → EReal :=
  mid (fun k => x0 (ix2 r k)) (mixed (fun k => x1 (ix2 r k)) (fun k => x2 (ix2 r k)) (fun k => x3 (ix2 r k))
    (fun k => x4 (ix2 r k)) (fun k i => x5 (ix2 k i)) (fun k i => x6 (ix2 k i))) (fun k i => x7 (ix2 k i))

theorem out_apply (r : Fin 512) (j : Fin 1024) :
    out0_12 x0 x1 x2 x3 x4 x5 x6 x7 x8 x9 x10 x11 (ix2 r j)
      = out (midAt x0 x1 x2 x3 x4 x5 x6 x7 r) (fun k => x8 (ix2 0 k)) (fun k f => x9 (ix2 k f)) (fun k f => x10 (ix2 k f))
        (fun f i => x11 (ix2 f i)) j := by
  unfold out0_12 k0_pay23
  generalize hx : k0_pay21 x0 x1 x2 x3 x4 x5 x6 x7 x8 x9 x10 x11 = X
  generalize hm : k0_pay22 x0 x1 x2 x3 x4 x5 x6 x7 x8 x9 x10 x11 = M
  frame_out
  rw [pay1_apply, pay17_apply, pay13_apply, pay11_apply, pay9_apply, pay8_apply, pay6_apply]
  have hv : ∀ k, k0_pay4 X M x7 (ix2 r k) = midAt x0 x1 x2 x3 x4 x5 x6 x7 r k := fun k => by
    rw [pay4_apply, ← hx, ← hm]
    unfold k0_pay21 k0_pay22 k0_pay2
    frame_out
    simp only [pay3_apply]
    pointwise
  have hn : ∀ k, k0_pay5 X M x7 x8 (ix2 r k) = normed (midAt x0 x1 x2 x3 x4 x5 x6 x7 r) (fun k => x8 (ix2 0 k)) k := fun k => by
    rw [pay5_apply]
    simp only [hv]
  have hp : ∀ (o : ℕ) (ho : o + 256 ≤ 2816) (a b : Vec Ideal S1024x256 .bf16) (d : Vec Ideal S256x1024 .bf16)
      (_ : ∀ k (q : Fin 256), a (ix2 k q) = x9 (ix2 k ⟨o + q.val, by omega⟩)) (_ : ∀ k (q : Fin 256), b (ix2 k q) = x10 (ix2 k ⟨o + q.val, by omega⟩))
      (_ : ∀ (q : Fin 256) i, d (ix2 q i) = x11 (ix2 ⟨o + q.val, by omega⟩ i)),
      part (k0_pay5 X M x7 x8) a b d r j = stretch (fun f => act (normed (midAt x0 x1 x2 x3 x4 x5 x6 x7 r) (fun k => x8 (ix2 0 k)))
        (fun k => x9 (ix2 k f)) (fun k => x10 (ix2 k f)) * x11 (ix2 f j)) o ho := fun o ho a b d ha hb hd => by
    unfold part stretch
    simp only [hn, ha, hb, hd]
  rw [hv]
  unfold out
  rw [sum_eleven]
  simp only [← add_assoc]
  iterate 11 refine congrArg₂ (· + ·) ?_ (hp _ _ _ _ _ (cols x9 _ _ (by decide)) (cols x10 _ _ (by decide)) (lines x11 _ _ (by decide)))
  rfl
end

end Cert.Kernel2Ideal.Block

end
-- ==== Proof.MergeValue.lean ====
module

public import proofs.«01_k».proof.Proof.MergeBlock
public import proofs.«01_k».proof.Proof.Gen.Kernel2Ideal.Value
public import proofs.«01_k».proof.Proof.Gen.Reference2Ideal.Run

/-! The result arrays of the merge and of its reference: both are the plain result of Proof/MergeSpec.lean. -/

@[expose] public section

set_option maxRecDepth 16384

noncomputable section

open Idealize.ShloMosaic Idealize.ShloMosaic.TcCoe Idealize.ShloMosaic.Tactic Cert.Merge Cert.Pure

namespace Cert.Kernel2Ideal.Block

open Cert.Kernel2Ideal.Gen

variable (m : (ℓ : Loc nD τ sig) → Buf (Elt Ideal) ℓ)

theorem idx : ∀ t : Fin grid0.N,
    win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![t.val, 0] := by
  decide +kernel

theorem t_lt (t : Fin cfg0.N) : t.val < 64 := Nat.lt_of_lt_of_eq t.isLt (by decide)

/-- The row of a block's row. -/
def rowOf (t : Fin cfg0.N) (r : Fin 512) : Fin 32768 := ⟨512 * t.val + r.val, by have := t_lt t; omega⟩
/-- The batch row it lies in. -/
def batchOf (t : Fin cfg0.N) (r : Fin 512) : Fin 8 := ⟨(rowOf t r).val / 4096, Nat.div_lt_of_lt_mul (rowOf t r).isLt⟩
/-- The step it is. -/
def stepOf (t : Fin cfg0.N) (r : Fin 512) : Fin 4096 := ⟨(rowOf t r).val % 4096, Nat.mod_lt _ (by decide)⟩

theorem blk_x (c : Dev nD) (t : Fin cfg0.N) (r : Fin 512) (k : Fin 1024) :
    iblk m c 0 t (ix2 r k) = m ((c : Thread nD τ).loc main_arg0) (ix3 (batchOf t r) (stepOf t r) k) := by
  have e : iblk m c 0 t (ix2 r k) = V m c main_v7 (ix2 (rowOf t r) k) := by
    unfold rowOf
    blk_ext [iblk, (idx t).1]
  rw [e]
  entry_read
  pointwise
  rfl

theorem blk_oa (c : Dev nD) (t : Fin cfg0.N) (r : Fin 512) (k : Fin 512) :
    iblk m c 1 t (ix2 r k) = m ((c : Thread nD τ).loc main_arg1) (ix3 (batchOf t r) (stepOf t r) k) := by
  have e : iblk m c 1 t (ix2 r k) = V m c main_v8 (ix2 (rowOf t r) k) := by
    unfold rowOf
    blk_ext [iblk, (idx t).2.1]
  rw [e]
  entry_read
  pointwise
  rfl

theorem blk_wa (c : Dev nD) (t : Fin cfg0.N) (k : Fin 512) (j : Fin 1024) :
    iblk m c 5 t (ix2 k j) = m ((c : Thread nD τ).loc main_arg5) (ix2 k j) := by
  have e : iblk m c 5 t (ix2 k j) = V m c main_v0 (ix2 k j) := by blk_ext [iblk, (idx t).2.2.2.2.2.1]
  rw [e]
  entry_read
  pointwise

theorem blk_g (c : Dev nD) (t : Fin cfg0.N) (j : Fin 1024) :
    iblk m c 8 t (ix2 0 j) = m ((c : Thread nD τ).loc main_arg8) (ix1 j) := by
  have e : iblk m c 8 t (ix2 0 j) = V m c main_v3 (ix2 0 j) := by blk_ext [iblk, (idx t).2.2.2.2.2.2.2.2.1]
  rw [e]
  entry_read
  pointwise

theorem blk_ob (c : Dev nD) (t : Fin cfg0.N) (r : Fin 512) (k : Fin 512) :
    iblk m c 2 t (ix2 r k) = m ((c : Thread nD τ).loc main_arg2) (ix3 (batchOf t r) (stepOf t r) k) := by
  have e : iblk m c 2 t (ix2 r k) = V m c main_v9 (ix2 (rowOf t r) k) := by
    unfold rowOf
    blk_ext [iblk, (idx t).2.2.1]
  rw [e]
  entry_read
  pointwise
  rfl

theorem blk_ga (c : Dev nD) (t : Fin cfg0.N) (r : Fin 512) (k : Fin 1024) :
    iblk m c 3 t (ix2 r k) = m ((c : Thread nD τ).loc main_arg3) (ix3 (batchOf t r) (stepOf t r) k) := by
  have e : iblk m c 3 t (ix2 r k) = V m c main_v10 (ix2 (rowOf t r) k) := by
    unfold rowOf
    blk_ext [iblk, (idx t).2.2.2.1]
  rw [e]
  entry_read
  pointwise
  rfl

theorem blk_gb (c : Dev nD) (t : Fin cfg0.N) (r : Fin 512) (k : Fin 1024) :
    iblk m c 4 t (ix2 r k) = m ((c : Thread nD τ).loc main_arg4) (ix3 (batchOf t r) (stepOf t r) k) := by
  have e : iblk m c 4 t (ix2 r k) = V m c main_v11 (ix2 (rowOf t r) k) := by
    unfold rowOf
    blk_ext [iblk, (idx t).2.2.2.2.1]
  rw [e]
  entry_read
  pointwise
  rfl

theorem blk_wb (c : Dev nD) (t : Fin cfg0.N) (k : Fin 512) (j : Fin 1024) :
    iblk m c 6 t (ix2 k j) = m ((c : Thread nD τ).loc main_arg6) (ix2 k j) := by
  have e : iblk m c 6 t (ix2 k j) = V m c main_v1 (ix2 k j) := by blk_ext [iblk, (idx t).2.2.2.2.2.2.1]
  rw [e]
  entry_read
  pointwise

theorem blk_wo (c : Dev nD) (t : Fin cfg0.N) (k : Fin 1024) (j : Fin 1024) :
    iblk m c 7 t (ix2 k j) = m ((c : Thread nD τ).loc main_arg7) (ix2 k j) := by
  have e : iblk m c 7 t (ix2 k j) = V m c main_v2 (ix2 k j) := by blk_ext [iblk, (idx t).2.2.2.2.2.2.2.1]
  rw [e]
  entry_read
  pointwise

theorem blk_wg (c : Dev nD) (t : Fin cfg0.N) (k : Fin 1024) (j : Fin 2816) :
    iblk m c 9 t (ix2 k j) = m ((c : Thread nD τ).loc main_arg9) (ix2 k j) := by
  have e : iblk m c 9 t (ix2 k j) = V m c main_v4 (ix2 k j) := by blk_ext [iblk, (idx t).2.2.2.2.2.2.2.2.2.1]
  rw [e]
  entry_read
  pointwise

theorem blk_wu (c : Dev nD) (t : Fin cfg0.N) (k : Fin 1024) (j : Fin 2816) :
    iblk m c 10 t (ix2 k j) = m ((c : Thread nD τ).loc main_arg10) (ix2 k j) := by
  have e : iblk m c 10 t (ix2 k j) = V m c main_v5 (ix2 k j) := by blk_ext [iblk, (idx t).2.2.2.2.2.2.2.2.2.2.1]
  rw [e]
  entry_read
  pointwise

theorem blk_wd (c : Dev nD) (t : Fin cfg0.N) (k : Fin 2816) (j : Fin 1024) :
    iblk m c 11 t (ix2 k j) = m ((c : Thread nD τ).loc main_arg11) (ix2 k j) := by
  have e : iblk m c 11 t (ix2 k j) = V m c main_v6 (ix2 k j) := by blk_ext [iblk, (idx t).2.2.2.2.2.2.2.2.2.2.2.1]
  rw [e]
  entry_read
  pointwise

theorem result_eq (c : Dev nD) : (dats m 0 c).arrAt 12 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  refine (dats m 0 c).arrAt_eq_of_covers 12 _ (by decide +kernel) fun t hf y => ?_
  have ht := t_lt t
  blk_simp
  rw [after0_12]
  obtain ⟨r, j, rfl⟩ : ∃ (r : Fin 512) (j : Fin 1024), y = ix2 r j := ⟨y 0, y 1, eq_ix2 y⟩
  have e : (win0_12.blk t).view.emb (ix2 r j) = ix2 (rowOf t r) j := by
    unfold rowOf
    blk_ext [(idx t).2.2.2.2.2.2.2.2.2.2.2.2]
  refine (out_apply _ _ _ _ _ _ _ _ _ _ _ _ r j).trans ?_
  unfold midAt
  simp only [blk_x, blk_oa, blk_ob, blk_ga, blk_gb, blk_wa, blk_wb, blk_wo, blk_g, blk_wg, blk_wu, blk_wd]
  refine Eq.trans ?_ (congrArg _ e.symm)
  rfl

end Cert.Kernel2Ideal.Block

namespace Cert.Reference2Ideal.Row

open Cert.Reference2Ideal Cert.Reference2Ideal.Gen

/-! The reference's stages, as array operations. -/

section
variable (x ga gb : (⟨S8x4096x1024, .f32⟩ : BufTy).Contents (Elt Ideal)) (oa ob : (⟨S8x4096x512, .bf16⟩ : BufTy).Contents (Elt Ideal))
  (wa wb : (⟨S512x1024, .f32⟩ : BufTy).Contents (Elt Ideal)) (wo : (⟨S1024x1024, .f32⟩ : BufTy).Contents (Elt Ideal))
  (g : (⟨S1024, .f32⟩ : BufTy).Contents (Elt Ideal)) (wg wu : (⟨S1024x2816, .f32⟩ : BufTy).Contents (Elt Ideal))
  (wd : (⟨S2816x1024, .f32⟩ : BufTy).Contents (Elt Ideal))

/-- The gate of an array of rows. -/
def gates (z : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z)))

/-- A branch, projected. -/
def proj (o : FVec Ideal S8x4096x512 .bf16) (w : FVec Ideal S512x1024 .f32) : FVec Ideal S8x4096x1024 .f32 :=
  Host.dotGeneral dot_S8x4096x512_S512x1024_S8x4096x1024_2_0_01_1_n_n none (extf .f32 o bitsLt_bf16_f32) w

/-- The residual rows. -/
def mids : FVec Ideal S8x4096x1024 .f32 :=
  addf x (Host.dotGeneral (φ₂ := .f32) dot_S8x4096x1024_S1024x1024_S8x4096x1024_2_0_01_1_n_n none
    (addf (mulf (gates ga) (proj oa wa)) (mulf (gates gb) (proj ob wb)) : FVec Ideal S8x4096x1024 .f32) wo)

/-- The normalised rows. -/
def norms (v : FVec Ideal S8x4096x1024 .f32) : FVec Ideal S8x4096x1024 .f32 :=
  mulf (mulf v (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf v v) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The rows before the smooth gate, or beside it. -/
def hidden (h : FVec Ideal S8x4096x1024 .f32) (w : FVec Ideal S1024x2816 .f32) : FVec Ideal S8x4096x2816 .f32 :=
  Host.dotGeneral dot_S8x4096x1024_S1024x2816_S8x4096x2816_2_0_01_1_n_n none h w

/-- The gated hidden rows. -/
def acts (h : FVec Ideal S8x4096x1024 .f32) : FVec Ideal S8x4096x2816 .f32 :=
  mulf (mulf (hidden h wg) (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf (hidden h wg))))))
    (hidden h wu)

/-- The result rows, from the residual rows. -/
def rowsOut (v : FVec Ideal S8x4096x1024 .f32) : FVec Ideal S8x4096x1024 .f32 :=
  addf v (Host.dotGeneral (φ₂ := .f32) dot_S8x4096x2816_S2816x1024_S8x4096x1024_2_0_01_1_n_n none (acts wg wu (norms g v)) wd)

theorem gates_apply (z : FVec Ideal S8x4096x1024 .f32) (b : Fin 8) (s : Fin 4096) (j : Fin 1024) :
    gates z (ix3 b s j) = gate (z (ix3 b s j)) := by
  unfold gates
  pointwise
  rfl

theorem proj_apply (o : FVec Ideal S8x4096x512 .bf16) (w : FVec Ideal S512x1024 .f32) (b : Fin 8) (s : Fin 4096) (j : Fin 1024) :
    proj o w (ix3 b s j) = ∑ k, o (ix3 b s k) * w (ix2 k j) := by
  unfold proj
  pointwise

theorem mids_apply (b : Fin 8) (s : Fin 4096) (j : Fin 1024) :
    mids x ga gb oa ob wa wb wo (ix3 b s j) = mid (fun k => x (ix3 b s k)) (mixed (fun k => oa (ix3 b s k)) (fun k => ob (ix3 b s k))
      (fun k => ga (ix3 b s k)) (fun k => gb (ix3 b s k)) (fun k j => wa (ix2 k j)) (fun k j => wb (ix2 k j)))
      (fun k j => wo (ix2 k j)) j := by
  unfold mids
  pointwise
  simp only [gates_apply, proj_apply]
  rfl

theorem norms_apply (v : FVec Ideal S8x4096x1024 .f32) (b : Fin 8) (s : Fin 4096) (j : Fin 1024) :
    norms g v (ix3 b s j) = normed (fun k => v (ix3 b s k)) (fun k => g (ix1 k)) j := by
  unfold norms
  pointwise
  rfl

theorem hidden_apply (h : FVec Ideal S8x4096x1024 .f32) (w : FVec Ideal S1024x2816 .f32) (b : Fin 8) (s : Fin 4096) (f : Fin 2816) :
    hidden h w (ix3 b s f) = ∑ k, h (ix3 b s k) * w (ix2 k f) := by
  unfold hidden
  pointwise

theorem acts_apply (h : FVec Ideal S8x4096x1024 .f32) (b : Fin 8) (s : Fin 4096) (f : Fin 2816) :
    acts wg wu h (ix3 b s f) = act (fun k => h (ix3 b s k)) (fun k => wg (ix2 k f)) (fun k => wu (ix2 k f)) := by
  unfold acts
  pointwise
  simp only [hidden_apply]
  rfl

theorem rowsOut_apply (v : FVec Ideal S8x4096x1024 .f32) (b : Fin 8) (s : Fin 4096) (j : Fin 1024) :
    rowsOut g wg wu wd v (ix3 b s j) = out (fun k => v (ix3 b s k)) (fun k => g (ix1 k)) (fun k f => wg (ix2 k f))
      (fun k f => wu (ix2 k f)) (fun f j => wd (ix2 f j)) j := by
  unfold rowsOut
  pointwise
  simp only [acts_apply, norms_apply]
  rfl

end

set_option maxHeartbeats 1000000 in
theorem staged (m : (ℓ : Loc nD τ sig) → Buf (Elt Ideal) ℓ) (c : Dev nD) : Value.res_out0 m c
    = shapeCast S32768x1024 (rowsOut (m ((c.tc : Thread nD τ).loc main_arg8)) (m ((c.tc : Thread nD τ).loc main_arg9)) (m ((c.tc : Thread nD τ).loc main_arg10))
      (m ((c.tc : Thread nD τ).loc main_arg11)) (mids (m ((c.tc : Thread nD τ).loc main_arg0)) (m ((c.tc : Thread nD τ).loc main_arg3)) (m ((c.tc : Thread nD τ).loc main_arg4))
      (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7)))) shapeCasts_S8x4096x1024_S32768x1024 := rfl

theorem result_eq (m : (ℓ : Loc nD τ sig) → Buf (Elt Ideal) ℓ) (c : Dev nD) : Value.res_out0 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  funext i
  obtain ⟨n, j, rfl⟩ : ∃ (n : Fin 32768) (j : Fin 1024), i = ix2 n j := ⟨i 0, i 1, eq_ix2 i⟩
  rw [staged]
  pointwise
  rw [rowsOut_apply]
  simp only [mids_apply]
  rfl

end Cert.Reference2Ideal.Row

end
-- ==== Proof.MergeClaims.lean ====
module

public import proofs.«01_k».proof.Defs
public import proofs.«01_k».proof.Proof.Gen.Kernel2
public import proofs.«01_k».proof.Proof.Gen.Kernel2Ideal.Value
public import proofs.«01_k».proof.Proof.Gen.Kernel2Ideal.Frame
public import proofs.«01_k».proof.Proof.Gen.Reference2Ideal.Run
public import proofs.«01_k».proof.Proof.MergeValue
public import Idealize.ShloMosaic.Lib.Quiescent

/-! The claims about the merge and the feed-forward layer: the frames of the program at bit patterns and at extended
reals and of its reference, and the equality of their results. -/

@[expose] public section

noncomputable section

namespace Cert.Proof

open Idealize.ShloMosaic Idealize.ShloMosaic.TcCoe Idealize.SL.Sem

section
attribute [local instance] Cert.Kernel2.Gen.facts Cert.Kernel2Ideal.Gen.facts

set_option maxHeartbeats 4000000 in
/-- The two programs' kernels are one text. -/
theorem body2_same : Cert.Kernel2.defs₀ (F := Bits) = Cert.Kernel2Ideal.defs₀ := by
  unfold Cert.Kernel2.defs₀ Cert.Kernel2Ideal.defs₀
  refine congrArg Defs.onTc ?_
  funext l x
  obtain ⟨l, hl⟩ := l
  cases l with
  | succ n => exact absurd hl (Nat.not_lt.2 (Nat.le_add_left _ _))
  | zero =>
    obtain ⟨t, s⟩ := x
    exact (rfl : Cert.Kernel2.cc0_merge_ffn (F := Bits) _ _ _ _ _ _ _ _ _ _ _ _ _ _ _ _ _ _ _ _ _ _ _ _ _ _ _
      = Cert.Kernel2Ideal.cc0_merge_ffn (F := Bits) _ _ _ _ _ _ _ _ _ _ _ _ _ _ _ _ _ _ _ _ _ _ _ _ _ _ _)

theorem defs2_same : Cert.Kernel2.defs (F := Bits) = Cert.Kernel2Ideal.defs := congrArg (Pipeline.defs Cert.Kernel2Ideal.pcfgs) body2_same

set_option maxHeartbeats 4000000 in
theorem main2_same : Cert.Kernel2.main (F := Bits) = Cert.Kernel2Ideal.main := rfl

end

set_option maxHeartbeats 4000000 in
theorem frame_kernel2 : Cert.quiescent_Kernel2 (hKernel2 := Cert.Kernel2.Gen.facts) := fun m ρ _ => by
  rw [defs2_same, main2_same]
  exact Cert.Kernel2Ideal.Gen.frame (F := Bits) m ρ

theorem frame_kernel2Ideal : Cert.quiescent_Kernel2Ideal (hKernel2Ideal := Cert.Kernel2Ideal.Gen.facts) := fun m ρ _ =>
  Cert.Kernel2Ideal.Gen.frame (F := Ideal) m ρ

theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩)
    (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => (Cert.Kernel2Ideal.Gen.dats m 0 c).arrAt 12 Cert.Kernel2Ideal.cfg0.N, ?_, ?_⟩
  · exact Cert.Kernel2Ideal.Value.run_blocks (F := Ideal) m ρ
  · refine (θ_run Cert.Reference2Ideal.defs _ _).mono (fun r h c => ?_) (Cert.Reference2Ideal.Value.run (F := Ideal) m' ρ')
    obtain ⟨a0, a1, a2, a3, a4, a5, a6, a7, a8, a9, a10, a11⟩ := hargs c
    refine ⟨(h c).1.trans ((Cert.Reference2Ideal.Row.result_eq m' c).trans ?_), (h c).2⟩
    rw [a0, a1, a2, a3, a4, a5, a6, a7, a8, a9, a10, a11]
    exact (Cert.Kernel2Ideal.Block.result_eq m c).symm

end Cert.Proof

end
-- ==== Proof.ProjRun.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The projection's run: what is in the arrays where its region is entered, the body's triple at every point, and the
frame, over any float values. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers of core `c` when the region is entered: after the host operations before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 8000000 in
/-- The main program up to the region: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- main_arg0 is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- main_arg1 is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- main_arg2 is as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- main_arg3 is as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- main_arg4 is as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- main_arg5 is as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for proof data over the arrays as found whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for proof data over the arrays as found whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for proof data over the arrays as found whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for proof data over the arrays as found whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for proof data over the arrays as found whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for proof data over the arrays as found whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for proof data over the arrays as found whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for proof data over the arrays as found whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for proof data over the arrays as found whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, for proof data over the arrays as found whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, for proof data over the arrays as found whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- The frame's statement from a run: an argument array that a window stages is as it was, and so is one that no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x128 := Rect.unit (s := S256x128) ![0, 0] S256x128.size inb_S256x128_S256x128_0_0
abbrev r0_3 : Rect S512x512 := Rect.unit (s := S512x512) ![0, 0] S512x512.size inb_S512x512_S512x512_0_0
abbrev r0_4 : Rect S1024x3072 := Rect.unit (s := S1024x3072) ![0, 0] S1024x512.size inb_S1024x3072_S1024x512_0_0
abbrev r0_5 : Rect S256x512 := Rect.unit (s := S256x512) ![0, 0] S256x512.size inb_S256x512_S256x512_0_0
abbrev r0_6 : Rect S1024x3072 := Rect.unit (s := S1024x3072) ![0, 512] S1024x512.size inb_S1024x3072_S1024x512_0_512
abbrev r0_7 : Rect S1024x3072 := Rect.unit (s := S1024x3072) ![0, 1024] S1024x512.size inb_S1024x3072_S1024x512_0_1024
abbrev r0_8 : Rect S1x512 := Rect.unit (s := S1x512) ![0, 0] S1x512.size inb_S1x512_S1x512_0_0
abbrev r0_9 : Rect S1024x3072 := Rect.unit (s := S1024x3072) ![0, 1536] S1024x512.size inb_S1024x3072_S1024x512_0_1536
abbrev r0_10 : Rect S1024x3072 := Rect.unit (s := S1024x3072) ![0, 2048] S1024x512.size inb_S1024x3072_S1024x512_0_2048
abbrev r0_11 : Rect S1x512x256 := Rect.unit (s := S1x512x256) ![0, 0, 0] S1x512x256.size inb_S1x512x256_S1x512x256_0_0_0
abbrev r0_12 : Rect S1x1x512x256 := Rect.unit (s := S1x1x512x256) ![0, 0, 0, 0] S1x1x512x256.size inb_S1x1x512x256_S1x1x512x256_0_0_0_0
abbrev r0_13 : Rect S1024x3072 := Rect.unit (s := S1024x3072) ![0, 2560] S1024x512.size inb_S1024x3072_S1024x512_0_2560
abbrev r0_14 : Rect S1024x128 := Rect.unit (s := S1024x128) ![0, 0] S1024x128.size inb_S1024x128_S1024x128_0_0
abbrev r0_15 : Rect S1x128 := Rect.unit (s := S1x128) ![0, 0] S1x128.size inb_S1x128_S1x128_0_0
abbrev r0_16 : Rect S1x64x256 := Rect.unit (s := S1x64x256) ![0, 0, 0] S1x64x256.size inb_S1x64x256_S1x64x256_0_0_0
abbrev r0_17 : Rect S1024x2048 := Rect.unit (s := S1024x2048) ![0, 0] S1024x1024.size inb_S1024x2048_S1024x1024_0_0
abbrev r0_18 : Rect S1024x2048 := Rect.unit (s := S1024x2048) ![0, 1024] S1024x1024.size inb_S1024x2048_S1024x1024_0_1024

/-! ## What the body leaves in each output window's buffer -/

/-! ### Values of the body that several stores read -/

def k0_pay38 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x1024 .bf16 :=
  k0_pay2 (View.ld x0 r0_0) (View.ld x1 r0_1)
def k0_pay39 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay3 (View.ld x5 r0_2)
def k0_pay40 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay4 (View.ld x6 r0_2)
def k0_pay41 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : IVec S1x128 1 :=
  k0_pay5
def k0_pay42 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : IVec S1x128 1 :=
  k0_pay6 (iota .tc S1x128 32 [1] iota_S1x128_d1_w32) 64#32
def k0_pay43 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S512x512 .bf16 :=
  k0_pay7 (View.ld x10 r0_3)
def k0_pay44 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x512 .f32 :=
  k0_pay13 (k0_pay38 x0 x1 x2 x3 x4 x5 x6 x7 x8 x9 x10) (View.ld x2 r0_9)
def k0_pay45 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay15 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay43 x0 x1 x2 x3 x4 x5 x6 x7 x8 x9 x10) (k0_pay44 x0 x1 x2 x3 x4 x5 x6 x7 x8 x9 x10) (View.ld x8 r0_8)
def k0_pay46 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay16 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay43 x0 x1 x2 x3 x4 x5 x6 x7 x8 x9 x10) (k0_pay44 x0 x1 x2 x3 x4 x5 x6 x7 x8 x9 x10) (View.ld x8 r0_8)
def k0_pay47 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay17 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay43 x0 x1 x2 x3 x4 x5 x6 x7 x8 x9 x10) (k0_pay44 x0 x1 x2 x3 x4 x5 x6 x7 x8 x9 x10) (View.ld x8 r0_8)
def k0_pay48 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay18 (k0_pay43 x0 x1 x2 x3 x4 x5 x6 x7 x8 x9 x10) (k0_pay44 x0 x1 x2 x3 x4 x5 x6 x7 x8 x9 x10) (View.ld x8 r0_8)
def k0_pay49 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay31 (k0_pay38 x0 x1 x2 x3 x4 x5 x6 x7 x8 x9 x10) (View.ld x3 r0_14)
def k0_pay50 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : FVec F S256x128 .f32 :=
  k0_pay32 (k0_pay38 x0 x1 x2 x3 x4 x5 x6 x7 x8 x9 x10) (View.ld x3 r0_14)
def k0_pay51 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : IVec S1x128 1 :=
  k0_pay33 (k0_pay42 x0 x1 x2 x3 x4 x5 x6 x7 x8 x9 x10)

/-- Window 11's staging buffer after the body, from the input blocks: its one store. -/
def out0_11 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .f32 :=
  View.canon [⟨r0_5, k0_pay8 (k0_pay38 x0 x1 x2 x3 x4 x5 x6 x7 x8 x9 x10) (View.ld x2 r0_4)⟩]

/-- The store covers the buffer. -/
theorem cover0_11 (p0 : Vec F S256x512 .f32) (y : S256x512.Idx) :
    ∃ pc ∈ ([⟨r0_5, p0⟩] : List (View.Piece (Elt F) S256x512 .f32)), y ∈ pc.1.set :=
  View.cover_of_tiled [⟨r0_5, p0⟩] S256x512.size (by rfl) y

/-- Window 12's staging buffer after the body, from the input blocks: its one store. -/
def out0_12 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .f32 :=
  View.canon [⟨r0_5, k0_pay9 (k0_pay38 x0 x1 x2 x3 x4 x5 x6 x7 x8 x9 x10) (View.ld x2 r0_6)⟩]

/-- The store covers the buffer. -/
theorem cover0_12 (p0 : Vec F S256x512 .f32) (y : S256x512.Idx) :
    ∃ pc ∈ ([⟨r0_5, p0⟩] : List (View.Piece (Elt F) S256x512 .f32)), y ∈ pc.1.set :=
  View.cover_of_tiled [⟨r0_5, p0⟩] S256x512.size (by rfl) y

/-- Window 13's staging buffer after the body, from the input blocks: its one store. -/
def out0_13 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .bf16 :=
  View.canon [⟨r0_5, k0_pay12 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay10 (k0_pay38 x0 x1 x2 x3 x4 x5 x6 x7 x8 x9 x10) (View.ld x10 r0_3) (View.ld x2 r0_7) (View.ld x7 r0_8)) (k0_pay11 (k0_pay38 x0 x1 x2 x3 x4 x5 x6 x7 x8 x9 x10) (View.ld x10 r0_3) (View.ld x2 r0_7) (View.ld x7 r0_8))⟩]

/-- The store covers the buffer. -/
theorem cover0_13 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 14's staging buffer after the body, from the input blocks: its one store. -/
def out0_14 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S1x512x256 .f32 :=
  View.canon [⟨r0_11, k0_pay23 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay45 x0 x1 x2 x3 x4 x5 x6 x7 x8 x9 x10) (k0_pay46 x0 x1 x2 x3 x4 x5 x6 x7 x8 x9 x10) (k0_pay47 x0 x1 x2 x3 x4 x5 x6 x7 x8 x9 x10) (k0_pay48 x0 x1 x2 x3 x4 x5 x6 x7 x8 x9 x10) 96#32⟩]

/-- The store covers the buffer. -/
theorem cover0_14 (p0 : Vec F S1x512x256 .f32) (y : S1x512x256.Idx) :
    ∃ pc ∈ ([⟨r0_11, p0⟩] : List (View.Piece (Elt F) S1x512x256 .f32)), y ∈ pc.1.set :=
  View.cover_of_tiled [⟨r0_11, p0⟩] S1x512x256.size (by rfl) y

/-- Window 15's staging buffer after the body, from the input blocks: its one store. -/
def out0_15 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .bf16 :=
  View.canon [⟨r0_5, k0_pay20 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay45 x0 x1 x2 x3 x4 x5 x6 x7 x8 x9 x10) (k0_pay46 x0 x1 x2 x3 x4 x5 x6 x7 x8 x9 x10) (k0_pay47 x0 x1 x2 x3 x4 x5 x6 x7 x8 x9 x10) (k0_pay48 x0 x1 x2 x3 x4 x5 x6 x7 x8 x9 x10) 96#32⟩]

/-- The store covers the buffer. -/
theorem cover0_15 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 16's staging buffer after the body, from the input blocks: its one store. -/
def out0_16 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S1x512x256 .f32 :=
  View.canon [⟨r0_11, k0_pay25 (k0_pay38 x0 x1 x2 x3 x4 x5 x6 x7 x8 x9 x10) (View.ld x2 r0_10)⟩]

/-- The store covers the buffer. -/
theorem cover0_16 (p0 : Vec F S1x512x256 .f32) (y : S1x512x256.Idx) :
    ∃ pc ∈ ([⟨r0_11, p0⟩] : List (View.Piece (Elt F) S1x512x256 .f32)), y ∈ pc.1.set :=
  View.cover_of_tiled [⟨r0_11, p0⟩] S1x512x256.size (by rfl) y

/-- Window 17's staging buffer after the body, from the input blocks: its one store. -/
def out0_17 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .bf16 :=
  View.canon [⟨r0_5, k0_pay22 (k0_pay38 x0 x1 x2 x3 x4 x5 x6 x7 x8 x9 x10) (View.ld x2 r0_10)⟩]

/-- The store covers the buffer. -/
theorem cover0_17 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 18's staging buffer after the body, from the input blocks: its one store. -/
def out0_18 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S1x1x512x256 .bf16 :=
  View.canon [⟨r0_12, k0_pay26 (k0_pay38 x0 x1 x2 x3 x4 x5 x6 x7 x8 x9 x10) (View.ld x2 r0_10)⟩]

/-- The store covers the buffer. -/
theorem cover0_18 (p0 : Vec F S1x1x512x256 .bf16) (y : S1x1x512x256.Idx) :
    ∃ pc ∈ ([⟨r0_12, p0⟩] : List (View.Piece (Elt F) S1x1x512x256 .bf16)), y ∈ pc.1.set :=
  View.cover_of_tiled [⟨r0_12, p0⟩] S1x1x512x256.size (by rfl) y

/-- Window 19's staging buffer after the body, from the input blocks: its one store. -/
def out0_19 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x512 .bf16 :=
  View.canon [⟨r0_5, k0_pay30 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay27 (k0_pay38 x0 x1 x2 x3 x4 x5 x6 x7 x8 x9 x10) (View.ld x2 r0_13)) (k0_pay28 (k0_pay38 x0 x1 x2 x3 x4 x5 x6 x7 x8 x9 x10) (View.ld x2 r0_13)) (k0_pay29 (k0_pay38 x0 x1 x2 x3 x4 x5 x6 x7 x8 x9 x10) (View.ld x2 r0_13))⟩]

/-- The store covers the buffer. -/
theorem cover0_19 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 20's staging buffer after the body, from the input blocks: its one store. -/
def out0_20 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S1x64x256 .f32 :=
  View.canon [⟨r0_16, k0_pay35 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay49 x0 x1 x2 x3 x4 x5 x6 x7 x8 x9 x10) (k0_pay50 x0 x1 x2 x3 x4 x5 x6 x7 x8 x9 x10) (Scalar.ofBits .f32 0x00000000#32) (k0_pay51 x0 x1 x2 x3 x4 x5 x6 x7 x8 x9 x10) (View.ld x9 r0_15)⟩]

/-- The store covers the buffer. -/
theorem cover0_20 (p0 : Vec F S1x64x256 .f32) (y : S1x64x256.Idx) :
    ∃ pc ∈ ([⟨r0_16, p0⟩] : List (View.Piece (Elt F) S1x64x256 .f32)), y ∈ pc.1.set :=
  View.cover_of_tiled [⟨r0_16, p0⟩] S1x64x256.size (by rfl) y

/-- Window 21's staging buffer after the body, from the input blocks: its one store. -/
def out0_21 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x128 .bf16 :=
  View.canon [⟨r0_2, k0_pay36 (k0_pay39 x0 x1 x2 x3 x4 x5 x6 x7 x8 x9 x10) (k0_pay40 x0 x1 x2 x3 x4 x5 x6 x7 x8 x9 x10) (k0_pay41 x0 x1 x2 x3 x4 x5 x6 x7 x8 x9 x10) (k0_pay42 x0 x1 x2 x3 x4 x5 x6 x7 x8 x9 x10) (k0_pay49 x0 x1 x2 x3 x4 x5 x6 x7 x8 x9 x10) (k0_pay50 x0 x1 x2 x3 x4 x5 x6 x7 x8 x9 x10) (Scalar.ofBits .f32 0x00000000#32) (k0_pay51 x0 x1 x2 x3 x4 x5 x6 x7 x8 x9 x10) (View.ld x9 r0_15)⟩]

/-- The store covers the buffer. -/
theorem cover0_21 (p0 : Vec F S256x128 .bf16) (y : S256x128.Idx) :
    ∃ pc ∈ ([⟨r0_2, p0⟩] : List (View.Piece (Elt F) S256x128 .bf16)), y ∈ pc.1.set :=
  View.cover_of_tiled [⟨r0_2, p0⟩] S256x128.size (by rfl) y

/-- Window 22's staging buffer after the body, from the input blocks: its one store. -/
def out0_22 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x128 .f32 :=
  View.canon [⟨r0_2, k0_pay31 (k0_pay38 x0 x1 x2 x3 x4 x5 x6 x7 x8 x9 x10) (View.ld x3 r0_14)⟩]

/-- The store covers the buffer. -/
theorem cover0_22 (p0 : Vec F S256x128 .f32) (y : S256x128.Idx) :
    ∃ pc ∈ ([⟨r0_2, p0⟩] : List (View.Piece (Elt F) S256x128 .f32)), y ∈ pc.1.set :=
  View.cover_of_tiled [⟨r0_2, p0⟩] S256x128.size (by rfl) y

/-- Window 23's staging buffer after the body, from the input blocks: its one store. -/
def out0_23 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x1024 .f32 :=
  View.canon [⟨r0_0, k0_pay37 (k0_pay38 x0 x1 x2 x3 x4 x5 x6 x7 x8 x9 x10) (View.ld x4 r0_17)⟩]

/-- The store covers the buffer. -/
theorem cover0_23 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 24's staging buffer after the body, from the input blocks: its one store. -/
def out0_24 (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) : Vec F S256x1024 .f32 :=
  View.canon [⟨r0_0, k0_pay1 (k0_pay38 x0 x1 x2 x3 x4 x5 x6 x7 x8 x9 x10) (View.ld x4 r0_18)⟩]

/-- The store covers the buffer. -/
theorem cover0_24 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The body, run on its buffers: the inputs' are left as they were, and each output's holds `out0_W` of the inputs'. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1024x2048 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S1x512x256 .f32) (harg15 : arg15.IsWhole) (arg16 : Memref sig .tc .vmem S256x512 .bf16) (harg16 : arg16.IsWhole) (arg17 : Memref sig .tc .vmem S1x512x256 .f32) (harg17 : arg17.IsWhole) (arg18 : Memref sig .tc .vmem S256x512 .bf16) (harg18 : arg18.IsWhole) (arg19 : Memref sig .tc .vmem S1x1x512x256 .bf16) (harg19 : arg19.IsWhole) (arg20 : Memref sig .tc .vmem S256x512 .bf16) (harg20 : arg20.IsWhole) (arg21 : Memref sig .tc .vmem S1x64x256 .f32) (harg21 : arg21.IsWhole) (arg22 : Memref sig .tc .vmem S256x128 .bf16) (harg22 : arg22.IsWhole) (arg23 : Memref sig .tc .vmem S256x128 .f32) (harg23 : arg23.IsWhole) (arg24 : Memref sig .tc .vmem S256x1024 .f32) (harg24 : arg24.IsWhole) (arg25 : Memref sig .tc .vmem S256x1024 .f32) (harg25 : arg25.IsWhole)
    (x0 : Vec F S256x1024 .f32) (x1 : Vec F S1x1024 .f32) (x2 : Vec F S1024x3072 .bf16) (x3 : Vec F S1024x128 .bf16) (x4 : Vec F S1024x2048 .bf16) (x5 : Vec F S256x128 .f32) (x6 : Vec F S256x128 .f32) (x7 : Vec F S1x512 .f32) (x8 : Vec F S1x512 .f32) (x9 : Vec F S1x128 .f32) (x10 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10) ∗ owns (c : Thread nD τ) arg24 fullShare (out0_23 x0 x1 x2 x3 x4 x5 x6 x7 x8 x9 x10) ∗ owns (c : Thread nD τ) arg25 fullShare (out0_24 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the pipeline on core `c`: the arrays as found; after the body at point `t` each input's buffer at its block
    and each output's at `out0_W` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 25, h⟩ => absurd h (Nat.not_lt.2 (Nat.le_add_left _ _))
  Φ _ := Pipeline.ΦA spec0 c
  q _ := fullShare
  owed _ := 0

/-- The proof data's arrays are those found. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
/-- The body at any point: the inputs' buffers hold their blocks, and the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 8000000 in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every execution ends, with every array of the pipeline at what its blocks make it and every other buffer as found. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Gen

end
-- ==== Proof.ProjFrames.lean ====
module

public import proofs.«01_k».proof.Defs
public import proofs.«01_k».proof.Proof.Gen.Kernel3
public import proofs.«01_k».proof.Proof.ProjRun
public import proofs.«01_k».proof.Proof.Gen.Reference3Ideal.Run
public import Idealize.ShloMosaic.Lib.Quiescent

/-! The frames of the projection: of the program at bit patterns and at extended reals, and of its reference. -/

@[expose] public section

noncomputable section

namespace Cert.Proof

open Idealize.ShloMosaic Idealize.ShloMosaic.TcCoe Idealize.SL.Sem

section
attribute [local instance] Cert.Kernel3.Gen.facts Cert.Kernel3Ideal.Gen.facts

set_option maxHeartbeats 4000000 in
/-- The two programs' kernels are one text. -/
theorem body3_same : Cert.Kernel3.defs₀ (F := Bits) = Cert.Kernel3Ideal.defs₀ := by
  unfold Cert.Kernel3.defs₀ Cert.Kernel3Ideal.defs₀
  refine congrArg Defs.onTc ?_
  funext l x
  obtain ⟨l, hl⟩ := l
  cases l with
  | succ n => exact absurd hl (Nat.not_lt.2 (Nat.le_add_left _ _))
  | zero =>
    obtain ⟨t, s⟩ := x
    exact (rfl : Cert.Kernel3.cc0_proj (F := Bits) _ _ _ _ _ _ _ _ _ _ _ _ _ _ _ _ _ _ _ _ _ _ _ _ _ _ _ _ _ _ _ _ _ _ _ _ _ _ _ _ _ _ _ _ _ _ _ _ _ _ _
      = Cert.Kernel3Ideal.cc0_proj (F := Bits) _ _ _ _ _ _ _ _ _ _ _ _ _ _ _ _ _ _ _ _ _ _ _ _ _ _ _ _ _ _ _ _ _ _ _ _ _ _ _ _ _ _ _ _ _ _ _ _ _ _ _)

set_option maxHeartbeats 4000000 in
theorem defs3_same : Cert.Kernel3.defs (F := Bits) = Cert.Kernel3Ideal.defs := congrArg (Pipeline.defs Cert.Kernel3Ideal.pcfgs) body3_same

set_option maxHeartbeats 4000000 in
theorem main3_same : Cert.Kernel3.main (F := Bits) = Cert.Kernel3Ideal.main := rfl

end

set_option maxHeartbeats 4000000 in
theorem frame_kernel3 : Cert.quiescent_Kernel3 (hKernel3 := Cert.Kernel3.Gen.facts) := fun m ρ _ => by
  rw [defs3_same, main3_same]
  exact Cert.Kernel3Ideal.Gen.frame (F := Bits) m ρ

theorem frame_kernel3Ideal : Cert.quiescent_Kernel3Ideal (hKernel3Ideal := Cert.Kernel3Ideal.Gen.facts) := fun m ρ _ =>
  Cert.Kernel3Ideal.Gen.frame (F := Ideal) m ρ

set_option maxHeartbeats 4000000 in
theorem frame_reference3Ideal : Cert.quiescent_Reference3Ideal (hReference3Ideal := Cert.Reference3Ideal.Gen.facts) := fun m ρ _ =>
  (θ_run Cert.Reference3Ideal.defs _ _).mono (fun r h => ⟨fun c => (h c).2.2.2.2.2.2.2, sem_eq_zero_of_no_sems rfl r.2⟩)
    (Cert.Reference3Ideal.Value.run (F := Ideal) m ρ)

end Cert.Proof

end
-- ==== Proof.ProjSpec.lean ====
module

public import proofs.«01_k».proof.Proof.MergeSpec

/-! One row of the projection, written plainly: the normalised row times the weights, the heads' normalisation, and the
rotation of the two halves of a head by the step's angles. -/

@[expose] public section

noncomputable section

namespace Cert.Proj

open Idealize.ShloMosaic Cert.Pure

/-- The normalised row times column `w`. -/
def dotted (x g w : Fin 1024 → EReal) : EReal := ∑ k, Merge.normed x g k * w k

/-- A head divided by the root of its mean square, scaled. -/
def headed (u g : Fin 64 → EReal) (d : Fin 64) : EReal :=
  u d * Ideal.rsqrt (Ideal.div (∑ k, u k * u k) (Ideal.ofBits .f32 0x42800000#32) + Ideal.ofBits .f32 0x358637BD#32) * g d

/-- The mean over 64 entries, as a product. -/
theorem div_64 (a : EReal) : Ideal.div a (Ideal.ofBits .f32 0x42800000#32) = a * Ideal.ofBits .f32 0x3C800000#32 := by
  have e64 : Ideal.ofBits .f32 0x42800000#32 = ((64 : ℝ) : EReal) := by
    simp [Ideal.ofBits, Ideal.ieee]
    exact (EReal.coe_mul _ _).symm.trans (congrArg _ (by norm_num))
  have e1 : Ideal.ofBits .f32 0x3C800000#32 = ((1 / 64 : ℝ) : EReal) := by
    simp [Ideal.ofBits, Ideal.ieee]
    exact (EReal.coe_mul _ _).symm.trans (congrArg _ (by norm_num))
  rw [e64, e1, Ideal.div_coe (by norm_num)]

/-- A number, as the programs turn it into a float. -/
def num (n : ℕ) : EReal := FloatOps.sitofp (F := Ideal) .f32 (BitVec.ofNat 32 n)

/-- The angle of step `s` at frequency `i`. -/
def angle (s i : ℕ) : EReal :=
  num s * Ideal.div 1 (Ideal.pow (Ideal.ofBits .f32 0x461C4000#32) (Ideal.div (num i) (Ideal.ofBits .f32 0x42000000#32)))

/-- A head turned by the angles of step `s`: entry `i` of the first half with entry `i` of the second. -/
def rot (u : Fin 64 → EReal) (s : ℕ) (d : Fin 64) : EReal :=
  if d.val < 32 then u d * Ideal.cos (angle s d.val) - u ⟨(d.val + 32) % 64, Nat.mod_lt _ (by decide)⟩ * Ideal.sin (angle s d.val)
  else u d * Ideal.cos (angle s (d.val - 32)) + u ⟨d.val - 32, by omega⟩ * Ideal.sin (angle s (d.val - 32))

section
variable (x : (⟨3, ![8, 4096, 1024]⟩ : Shape).Idx → EReal) (g : (⟨1, ![1024]⟩ : Shape).Idx → EReal)
  (w : (⟨2, ![1024, 5192]⟩ : Shape).Idx → EReal)

/-- Entry `j` of the projected row at batch row `b`, step `s`. -/
def entry (b : Fin 8) (s : Fin 4096) (j : Fin 5192) : EReal :=
  dotted (fun k => x (ix3 b s k)) (fun k => g (ix1 k)) (fun k => w (ix2 k j))

/-- The batch row of row `n`. -/
def batch (n : Fin 32768) : Fin 8 := ⟨n.val / 4096, Nat.div_lt_of_lt_mul n.isLt⟩
/-- The step of row `n`. -/
def step (n : Fin 32768) : Fin 4096 := ⟨n.val % 4096, Nat.mod_lt _ (by decide)⟩

/-- `W` columns from `o` on, of all rows. -/
def rows (W o : ℕ) (h : o + W ≤ 5192) : (⟨2, ![32768, W]⟩ : Shape).Idx → EReal := fun i =>
  entry x g w (batch (i 0)) (step (i 0)) ⟨o + (i 1).val, Nat.lt_of_lt_of_le (Nat.add_lt_add_left (i 1).isLt o) h⟩

/-- The values, a step a column. -/
def values : (⟨3, ![8, 512, 4096]⟩ : Shape).Idx → EReal := fun i =>
  entry x g w (i 0) (i 2) ⟨2048 + (i 1).val, Nat.lt_of_lt_of_le (Nat.add_lt_add_left (i 1).isLt 2048) (by decide)⟩

/-- The heads that ask the index, turned. -/
def asks : (⟨2, ![32768, 512]⟩ : Shape).Idx → EReal := fun i =>
  rot (fun d => entry x g w (batch (i 0)) (step (i 0)) ⟨2560 + (64 * ((i 1).val / 64) + d.val), by
    have h : (i 1).val < 512 := (i 1).isLt
    omega⟩) (step (i 0)).val ⟨(i 1).val % 64, Nat.mod_lt _ (by decide)⟩

/-- The index keys, normalised and turned, a step a column. -/
def keys (e : (⟨1, ![64]⟩ : Shape).Idx → EReal) : (⟨3, ![8, 64, 4096]⟩ : Shape).Idx → EReal := fun i =>
  rot (headed (fun d => entry x g w (i 0) (i 2) ⟨3072 + d.val, by omega⟩) (fun d => e (ix1 d))) (i 2).val (i 1)

end

end Cert.Proj

end
-- ==== Proof.ProjBlock.lean ====
module

public import proofs.«01_k».proof.Proof.ProjSpec
public import proofs.«01_k».proof.Proof.ProjRun
public import Idealize.ShloMosaic.Lib.Pipeline.ValueKit
public import Idealize.ShloMosaic.Lib.Claim

/-! What one block of rows becomes: the body's values at a row and a column, over the blocks of its arrays. -/

@[expose] public section

set_option maxRecDepth 16384

noncomputable section

namespace Cert.Kernel3Ideal.Block

open Idealize.ShloMosaic Idealize.ShloMosaic.TcCoe Idealize.ShloMosaic.Tactic Cert.Pure Cert.Proj
open Cert.Kernel3Ideal.Gen

/-- Whether a lane lies in the first half of its head. -/
theorem pay5_apply : ∀ l : Fin 128, k0_pay5 (ix2 0 l) = if l.val % 64 < 32 then 1#1 else 0#1 := by
  decide +kernel

theorem pay6_apply : ∀ l : Fin 128, k0_pay6 (iota .tc S1x128 32 [1] iota_S1x128_d1_w32) 64#32 (ix2 0 l) = if l.val < 64 then 1#1 else 0#1 := by
  decide +kernel

theorem pay2_apply (v0 : Vec Ideal S256x1024 .f32) (v12 : Vec Ideal S1x1024 .f32) (r : Fin 256) (k : Fin 1024) :
    k0_pay2 v0 v12 (ix2 r k) = Merge.normed (fun k => v0 (ix2 r k)) (fun k => v12 (ix2 0 k)) k := by
  unfold k0_pay2
  pointwise
  unfold Merge.normed
  rfl

theorem pay8_apply (h : FVec Ideal S256x1024 .bf16) (w : Vec Ideal S1024x512 .bf16) (r : Fin 256) (j : Fin 512) :
    k0_pay8 h w (ix2 r j) = ∑ k, h (ix2 r k) * w (ix2 k j) := by
  unfold k0_pay8
  pointwise

theorem pay9_apply (h : FVec Ideal S256x1024 .bf16) (w : Vec Ideal S1024x512 .bf16) (r : Fin 256) (j : Fin 512) :
    k0_pay9 h w (ix2 r j) = ∑ k, h (ix2 r k) * w (ix2 k j) := by
  unfold k0_pay9
  pointwise

theorem pay1_apply (h : FVec Ideal S256x1024 .bf16) (w : Vec Ideal S1024x1024 .bf16) (r : Fin 256) (j : Fin 1024) :
    k0_pay1 h w (ix2 r j) = ∑ k, h (ix2 r k) * w (ix2 k j) := by
  unfold k0_pay1
  pointwise

theorem pay37_apply (h : FVec Ideal S256x1024 .bf16) (w : Vec Ideal S1024x1024 .bf16) (r : Fin 256) (j : Fin 1024) :
    k0_pay37 h w (ix2 r j) = ∑ k, h (ix2 r k) * w (ix2 k j) := by
  unfold k0_pay37
  pointwise

theorem pay25_apply (h : FVec Ideal S256x1024 .bf16) (w : Vec Ideal S1024x512 .bf16) (r : Fin 256) (j : Fin 512) :
    k0_pay25 h w (ix3 0 j r) = ∑ k, h (ix2 r k) * w (ix2 k j) := by
  unfold k0_pay25 k0_pay24 k0_pay21
  pointwise

theorem pay31_apply (h : FVec Ideal S256x1024 .bf16) (w : Vec Ideal S1024x128 .bf16) (r : Fin 256) (j : Fin 128) :
    k0_pay31 h w (ix2 r j) = ∑ k, h (ix2 r k) * w (ix2 k j) := by
  unfold k0_pay31
  pointwise

/-- The lane that the rotation pairs a lane with: its counterpart in the other half of its head. -/
def partner {n : ℕ} (hn : 64 ∣ n) (c : Fin n) : Fin n :=
  ⟨if c.val % 64 < 32 then c.val + 32 else c.val - 32, by have := c.isLt; split <;> omega⟩

/-- One rotated entry. -/
abbrev turned {n : ℕ} (hn : 64 ∣ n) (u : Fin n → EReal) (cs sn : EReal) (c : Fin n) : EReal := u c * cs + u (partner hn c) * sn

/-- What the body computes at a lane, the partner picked among the lanes rotated either way, is the rotated entry. -/
theorem slab {n : ℕ} (hn : 64 ∣ n) (u : Fin n → EReal) (cs sn : Fin 128 → EReal) (c e a b : Fin n) (l : Fin 128)
    (he : e.val = c.val) (hl : l.val = c.val % 128) (ha : a.val = 128 * (c.val / 128) + (c.val % 128 + 128 - 96) % 128)
    (hb : b.val = 128 * (c.val / 128) + (c.val % 128 + 128 - 32) % 128) :
    u e * cs l + Scalar.select (k0_pay5 (ix2 0 l)) (u a) (u b) * sn l
      = turned hn u (cs ⟨c.val % 128, Nat.mod_lt _ (by decide)⟩) (sn ⟨c.val % 128, Nat.mod_lt _ (by decide)⟩) c := by
  obtain rfl : e = c := Fin.ext he
  obtain rfl : l = ⟨e.val % 128, Nat.mod_lt _ (by decide)⟩ := Fin.ext hl
  rw [pay5_apply]
  unfold turned
  refine congrArg (fun x : EReal => u e * cs _ + x * sn _) ?_
  by_cases h : e.val % 64 < 32
  · rw [if_pos (by dsimp only <;> omega)]
    refine congrArg u (Fin.ext ?_)
    unfold partner
    dsimp only
    rw [if_pos h]
    omega
  · rw [if_neg (by dsimp only <;> omega)]
    refine congrArg u (Fin.ext ?_)
    unfold partner
    dsimp only
    rw [if_neg h]
    omega

theorem pay30_apply (cs sn : FVec Ideal S256x128 .f32) (h : FVec Ideal S256x1024 .bf16) (w : Vec Ideal S1024x512 .bf16) (r : Fin 256) (c : Fin 512) :
    k0_pay30 cs sn k0_pay5 (k0_pay27 h w) (k0_pay28 h w) (k0_pay29 h w) (ix2 r c)
      = turned (by decide) (fun j => k0_pay27 h w (ix2 r j)) (cs (ix2 r ⟨c.val % 128, Nat.mod_lt _ (by decide)⟩)) (sn (ix2 r ⟨c.val % 128, Nat.mod_lt _ (by decide)⟩)) c := by
  unfold k0_pay30 k0_pay29 k0_pay28
  generalize k0_pay27 h w = z
  pointwise
  have hc := c.isLt
  repeat' split
  all_goals exact slab (by decide) (fun j => z (ix2 r j)) (fun l => cs (ix2 r l)) (fun l => sn (ix2 r l)) c _ _ _ _
              (by dsimp only <;> omega) (by dsimp only <;> omega) (by dsimp only <;> omega) (by dsimp only <;> omega)

theorem pay27_apply (h : FVec Ideal S256x1024 .bf16) (w : Vec Ideal S1024x512 .bf16) (r : Fin 256) (j : Fin 512) :
    k0_pay27 h w (ix2 r j) = ∑ k, h (ix2 r k) * w (ix2 k j) := by
  unfold k0_pay27
  pointwise

theorem pay23_apply (cs sn : FVec Ideal S256x128 .f32) (bd : FVec Ideal S512x512 .bf16) (z : FVec Ideal S256x512 .f32) (g : Vec Ideal S1x512 .f32)
    (r : Fin 256) (c : Fin 512) :
    k0_pay23 cs sn k0_pay5 (k0_pay15 cs sn k0_pay5 bd z g) (k0_pay16 cs sn k0_pay5 bd z g) (k0_pay17 cs sn k0_pay5 bd z g) (k0_pay18 bd z g) 96#32 (ix3 0 c r)
      = turned (by decide) (fun j => k0_pay14 bd z g (ix2 r j)) (cs (ix2 r ⟨c.val % 128, Nat.mod_lt _ (by decide)⟩)) (sn (ix2 r ⟨c.val % 128, Nat.mod_lt _ (by decide)⟩)) c := by
  unfold k0_pay23 k0_pay19 k0_pay18 k0_pay17 k0_pay16 k0_pay15
  generalize k0_pay14 bd z g = y
  pointwise
  have hc := c.isLt
  repeat' split
  all_goals exact slab (by decide) (fun j => y (ix2 r j)) (fun l => cs (ix2 r l)) (fun l => sn (ix2 r l)) c _ _ _ _
              (by dsimp only <;> omega) (by dsimp only <;> omega) (by dsimp only <;> omega) (by dsimp only <;> omega)

/-- The heads' normalisation. Splitting the squares into three parts leaves the first part alone where the row is finite. -/
theorem pay14_apply (bd : FVec Ideal S512x512 .bf16) (z : FVec Ideal S256x512 .f32) (g : Vec Ideal S1x512 .f32) (r : Fin 256) (c : Fin 512)
    (hz : ∀ j, ∃ q : ℝ, z (ix2 r j) = (q : EReal)) :
    k0_pay14 bd z g (ix2 r c) = z (ix2 r c) * Ideal.rsqrt ((∑ j, z (ix2 r j) * z (ix2 r j) * bd (ix2 j c)) + Ideal.ofBits .f32 0x358637BD#32)
      * g (ix2 0 c) := by
  have h0 : ∀ j, z (ix2 r j) * z (ix2 r j) - z (ix2 r j) * z (ix2 r j) = 0 := fun j => by
    obtain ⟨q, hq⟩ := hz j
    rw [hq, ← EReal.coe_mul, ← EReal.coe_sub, sub_self]
    rfl
  unfold k0_pay14
  pointwise
  simp only [h0, sub_zero, zero_mul, Finset.sum_const_zero, add_zero]

theorem pay13_apply (h : FVec Ideal S256x1024 .bf16) (w : Vec Ideal S1024x512 .bf16) (r : Fin 256) (j : Fin 512) :
    k0_pay13 h w (ix2 r j) = ∑ k, h (ix2 r k) * w (ix2 k j) := by
  unfold k0_pay13
  pointwise

/-- The sum over the lanes of the first head. -/
theorem sum_low (f : Fin 128 → EReal) : ∑ x : Fin 128, Scalar.select (if x.val < 64 then 1#1 else 0#1) (f x) 0
    = ∑ x : Fin 64, f ⟨x.val, by omega⟩ := by
  show ∑ x : Fin (64 + 64), Scalar.select (if x.val < 64 then 1#1 else 0#1) (f x) 0 = _
  rw [Fin.sum_univ_add]
  have h1 : ∀ x : Fin 64, Scalar.select (if (Fin.castAdd 64 x).val < 64 then 1#1 else 0#1) (f (Fin.castAdd 64 x)) 0 = f ⟨x.val, by omega⟩ := fun x => by
    rw [if_pos (by simp)]
    rfl
  have h2 : ∀ x : Fin 64, Scalar.select (if (Fin.natAdd 64 x).val < 64 then 1#1 else 0#1) (f (Fin.natAdd 64 x)) 0 = 0 := fun x => by
    rw [if_neg (by simp)]
    rfl
  simp only [h1, h2, Finset.sum_const_zero, add_zero]

theorem pay35_apply (cs sn : FVec Ideal S256x128 .f32) (h : FVec Ideal S256x1024 .bf16) (w : Vec Ideal S1024x128 .bf16) (g : Vec Ideal S1x128 .f32)
    (r : Fin 256) (d : Fin 64) :
    k0_pay35 cs sn k0_pay5 (k0_pay31 h w) (k0_pay32 h w) (Scalar.ofBits .f32 0x00000000#32)
      (k0_pay33 (k0_pay6 (iota .tc S1x128 32 [1] iota_S1x128_d1_w32) 64#32)) g (ix3 0 d r)
      = turned (by decide) (fun l : Fin 128 => k0_pay31 h w (ix2 r l) * Ideal.rsqrt ((∑ x : Fin 64, k0_pay31 h w (ix2 r ⟨x.val, by omega⟩)
          * k0_pay31 h w (ix2 r ⟨x.val, by omega⟩)) * Ideal.ofBits .f32 0x3C800000#32 + Ideal.ofBits .f32 0x358637BD#32) * g (ix2 0 l))
        (cs (ix2 r ⟨d.val % 128, Nat.mod_lt _ (by decide)⟩)) (sn (ix2 r ⟨d.val % 128, Nat.mod_lt _ (by decide)⟩)) ⟨d.val, by omega⟩ := by
  unfold k0_pay35 k0_pay34 k0_pay33 k0_pay32
  generalize k0_pay31 h w = z
  have hm := pay6_apply
  generalize k0_pay6 (iota .tc S1x128 32 [1] iota_S1x128_d1_w32) 64#32 = low at hm ⊢
  pointwise
  simp only [hm, sum_low (fun x => z (ix2 r x) * z (ix2 r x))]
  have hd := d.isLt
  exact slab (by decide) (fun l : Fin 128 => z (ix2 r l) * Ideal.rsqrt ((∑ x : Fin 64, z (ix2 r ⟨x.val, by omega⟩)
    * z (ix2 r ⟨x.val, by omega⟩)) * Ideal.ofBits .f32 0x3C800000#32 + Ideal.ofBits .f32 0x358637BD#32) * g (ix2 0 l))
    (fun l => cs (ix2 r l)) (fun l => sn (ix2 r l)) ⟨d.val, by omega⟩ _ _ _ _ rfl
    (by dsimp only <;> omega) (by dsimp only <;> omega) (by dsimp only <;> omega)

/-- The load of columns from `o` on. -/
theorem cols {R C w : ℕ} {e : EltTy} (x : Vec Ideal ⟨2, ![R, C]⟩ e) (o : ℕ) (inb) (h : o + w ≤ C) (k : Fin R) (q : Fin w) :
    View.ld x (Rect.unit (s := ⟨2, ![R, C]⟩) ![0, o] (⟨2, ![R, w]⟩ : Shape).size inb) (ix2 k q) = x (ix2 k ⟨o + q.val, by omega⟩) :=
  View.ld_unit_apply_of x _ _ _ _ _ fun a => match a with
    | ⟨0, _⟩ => (Nat.zero_add _).symm
    | ⟨1, _⟩ => rfl
    | ⟨_ + 2, h⟩ => absurd h (Nat.not_lt.2 (Nat.le_add_left _ _))

section
variable (x0 : Vec Ideal S256x1024 .f32) (x1 : Vec Ideal S1x1024 .f32) (x2 : Vec Ideal S1024x3072 .bf16) (x3 : Vec Ideal S1024x128 .bf16)
  (x4 : Vec Ideal S1024x2048 .bf16) (x5 x6 : Vec Ideal S256x128 .f32) (x7 x8 : Vec Ideal S1x512 .f32) (x9 : Vec Ideal S1x128 .f32)
  (x10 : Vec Ideal S512x512 .bf16)

/-- A row of the block, normalised and multiplied by a column. -/
abbrev dot (r : Fin 256) (w : Fin 1024 → EReal) : EReal := dotted (fun k => x0 (ix2 r k)) (fun k => x1 (ix2 0 k)) w

theorem rows_apply (r : Fin 256) (k : Fin 1024) :
    k0_pay38 x0 x1 x2 x3 x4 x5 x6 x7 x8 x9 x10 (ix2 r k) = Merge.normed (fun k => x0 (ix2 r k)) (fun k => x1 (ix2 0 k)) k := by
  unfold k0_pay38
  rw [pay2_apply]
  simp only [cols (w := 1024) x0 0 _ (by decide), cols (w := 1024) x1 0 _ (by decide), Nat.zero_add]

theorem pay39_eq : k0_pay39 x0 x1 x2 x3 x4 x5 x6 x7 x8 x9 x10 = x5 := by
  funext i
  obtain ⟨r, l, rfl⟩ : ∃ (r : Fin 256) (l : Fin 128), i = ix2 r l := ⟨i 0, i 1, eq_ix2 i⟩
  unfold k0_pay39 k0_pay3
  pointwise

theorem pay40_eq : k0_pay40 x0 x1 x2 x3 x4 x5 x6 x7 x8 x9 x10 = x6 := by
  funext i
  obtain ⟨r, l, rfl⟩ : ∃ (r : Fin 256) (l : Fin 128), i = ix2 r l := ⟨i 0, i 1, eq_ix2 i⟩
  unfold k0_pay40 k0_pay4
  pointwise

theorem out11_apply (r : Fin 256) (j : Fin 512) :
    out0_11 x0 x1 x2 x3 x4 x5 x6 x7 x8 x9 x10 (ix2 r j) = dot x0 x1 r fun k => x2 (ix2 k ⟨j.val, by omega⟩) := by
  unfold out0_11
  generalize hh : k0_pay38 x0 x1 x2 x3 x4 x5 x6 x7 x8 x9 x10 = h
  frame_out
  rw [pay8_apply]
  simp only [← hh, rows_apply, cols (w := 512) x2 0 _ (by decide), Nat.zero_add]
  rfl

theorem out12_apply (r : Fin 256) (j : Fin 512) :
    out0_12 x0 x1 x2 x3 x4 x5 x6 x7 x8 x9 x10 (ix2 r j) = dot x0 x1 r fun k => x2 (ix2 k ⟨512 + j.val, by omega⟩) := by
  unfold out0_12
  generalize hh : k0_pay38 x0 x1 x2 x3 x4 x5 x6 x7 x8 x9 x10 = h
  frame_out
  rw [pay9_apply]
  simp only [← hh, rows_apply, cols (w := 512) x2 512 _ (by decide)]
  rfl

theorem out16_apply (r : Fin 256) (j : Fin 512) :
    out0_16 x0 x1 x2 x3 x4 x5 x6 x7 x8 x9 x10 (ix3 0 j r) = dot x0 x1 r fun k => x2 (ix2 k ⟨2048 + j.val, by omega⟩) := by
  unfold out0_16
  generalize hh : k0_pay38 x0 x1 x2 x3 x4 x5 x6 x7 x8 x9 x10 = h
  frame_out
  rw [pay25_apply]
  simp only [← hh, rows_apply, cols (w := 512) x2 2048 _ (by decide)]
  rfl

theorem out23_apply (r : Fin 256) (j : Fin 1024) :
    out0_23 x0 x1 x2 x3 x4 x5 x6 x7 x8 x9 x10 (ix2 r j) = dot x0 x1 r fun k => x4 (ix2 k ⟨j.val, by omega⟩) := by
  unfold out0_23
  generalize hh : k0_pay38 x0 x1 x2 x3 x4 x5 x6 x7 x8 x9 x10 = h
  frame_out
  rw [pay37_apply]
  simp only [← hh, rows_apply, cols (w := 1024) x4 0 _ (by decide), Nat.zero_add]
  rfl

theorem out24_apply (r : Fin 256) (j : Fin 1024) :
    out0_24 x0 x1 x2 x3 x4 x5 x6 x7 x8 x9 x10 (ix2 r j) = dot x0 x1 r fun k => x4 (ix2 k ⟨1024 + j.val, by omega⟩) := by
  unfold out0_24
  generalize hh : k0_pay38 x0 x1 x2 x3 x4 x5 x6 x7 x8 x9 x10 = h
  frame_out
  rw [pay1_apply]
  simp only [← hh, rows_apply, cols (w := 1024) x4 1024 _ (by decide)]
  rfl

theorem out19_apply (r : Fin 256) (c : Fin 512) :
    out0_19 x0 x1 x2 x3 x4 x5 x6 x7 x8 x9 x10 (ix2 r c)
      = turned (by decide) (fun j : Fin 512 => dot x0 x1 r fun k => x2 (ix2 k ⟨2560 + j.val, by omega⟩))
        (x5 (ix2 r ⟨c.val % 128, Nat.mod_lt _ (by decide)⟩)) (x6 (ix2 r ⟨c.val % 128, Nat.mod_lt _ (by decide)⟩)) c := by
  unfold out0_19 k0_pay41
  generalize hh : k0_pay38 x0 x1 x2 x3 x4 x5 x6 x7 x8 x9 x10 = h
  frame_out
  rw [pay30_apply, pay39_eq, pay40_eq]
  simp only [pay27_apply, ← hh, rows_apply, cols (w := 512) x2 2560 _ (by decide)]
  rfl

theorem out20_apply (r : Fin 256) (d : Fin 64) :
    out0_20 x0 x1 x2 x3 x4 x5 x6 x7 x8 x9 x10 (ix3 0 d r)
      = turned (by decide) (fun l : Fin 128 => (dot x0 x1 r fun k => x3 (ix2 k l)) * Ideal.rsqrt ((∑ x : Fin 64, (dot x0 x1 r fun k => x3 (ix2 k ⟨x.val, by omega⟩))
          * (dot x0 x1 r fun k => x3 (ix2 k ⟨x.val, by omega⟩))) * Ideal.ofBits .f32 0x3C800000#32 + Ideal.ofBits .f32 0x358637BD#32) * x9 (ix2 0 l))
        (x5 (ix2 r ⟨d.val % 128, Nat.mod_lt _ (by decide)⟩)) (x6 (ix2 r ⟨d.val % 128, Nat.mod_lt _ (by decide)⟩)) ⟨d.val, by omega⟩ := by
  unfold out0_20 k0_pay41 k0_pay49 k0_pay50 k0_pay51 k0_pay42
  generalize hh : k0_pay38 x0 x1 x2 x3 x4 x5 x6 x7 x8 x9 x10 = h
  frame_out
  rw [pay35_apply, pay39_eq, pay40_eq]
  simp only [pay31_apply, ← hh, rows_apply, cols (w := 128) x3 0 _ (by decide), cols (w := 128) x9 0 _ (by decide), Nat.zero_add]
  rfl

theorem out14_apply (r : Fin 256) (c : Fin 512)
    (hz : ∀ w : Fin 512, ∃ q : ℝ, dot x0 x1 r (fun k => x2 (ix2 k ⟨1536 + w.val, by omega⟩)) = (q : EReal)) :
    out0_14 x0 x1 x2 x3 x4 x5 x6 x7 x8 x9 x10 (ix3 0 c r)
      = turned (by decide) (fun j : Fin 512 => (dot x0 x1 r fun k => x2 (ix2 k ⟨1536 + j.val, by omega⟩))
          * Ideal.rsqrt ((∑ i : Fin 512, (dot x0 x1 r fun k => x2 (ix2 k ⟨1536 + i.val, by omega⟩)) * (dot x0 x1 r fun k => x2 (ix2 k ⟨1536 + i.val, by omega⟩))
            * x10 (ix2 i j)) + Ideal.ofBits .f32 0x358637BD#32) * x8 (ix2 0 j))
        (x5 (ix2 r ⟨c.val % 128, Nat.mod_lt _ (by decide)⟩)) (x6 (ix2 r ⟨c.val % 128, Nat.mod_lt _ (by decide)⟩)) c := by
  unfold out0_14 k0_pay48 k0_pay47 k0_pay46 k0_pay45 k0_pay43 k0_pay41
  have hy : ∀ j, k0_pay44 x0 x1 x2 x3 x4 x5 x6 x7 x8 x9 x10 (ix2 r j) = dot x0 x1 r (fun k => x2 (ix2 k ⟨1536 + j.val, by omega⟩)) := fun j => by
    unfold k0_pay44
    rw [pay13_apply]
    simp only [rows_apply, cols (w := 512) x2 1536 _ (by decide)]
    rfl
  generalize k0_pay44 x0 x1 x2 x3 x4 x5 x6 x7 x8 x9 x10 = z at hy ⊢
  frame_out
  have hb : ∀ i j, k0_pay7 x10 (ix2 i j) = x10 (ix2 i j) := fun i j => by
    unfold k0_pay7
    pointwise
  rw [pay23_apply, pay39_eq, pay40_eq]
  simp only [pay14_apply _ z _ r _ (fun j => by rw [hy]; exact hz j), hy, hb]
end

end Cert.Kernel3Ideal.Block

end
-- ==== Proof.ProjValue.lean ====
module

public import proofs.«01_k».proof.Proof.ProjBlock

/-! The result arrays of the projection: each is the plain result of Proof/ProjSpec.lean. -/

@[expose] public section

set_option maxRecDepth 16384

noncomputable section

open Idealize.ShloMosaic Idealize.ShloMosaic.TcCoe Idealize.ShloMosaic.Tactic Cert.Proj Cert.Pure

namespace Cert.Kernel3Ideal.Block

open Cert.Kernel3Ideal.Gen

variable (m : (ℓ : Loc nD τ sig) → Buf (Elt Ideal) ℓ)

theorem idx_in : ∀ t : Fin grid0.N,
    win0_0.index t = ![t.val, 0] ∧ win0_1.index t = ![0, 0] ∧ win0_2.index t = ![0, 0] ∧ win0_3.index t = ![0, 0] ∧
    win0_4.index t = ![0, 0] ∧ win0_5.index t = ![t.val % 16, 0] ∧ win0_6.index t = ![t.val % 16, 0] ∧
    win0_8.index t = ![0, 0] ∧ win0_9.index t = ![0, 0] ∧ win0_10.index t = ![0, 0] := by
  decide +kernel

theorem idx_out : ∀ t : Fin grid0.N,
    win0_11.index t = ![t.val, 0] ∧ win0_12.index t = ![t.val, 0] ∧ win0_14.index t = ![t.val / 16, 0, t.val % 16] ∧
    win0_16.index t = ![t.val / 16, 0, t.val % 16] ∧ win0_19.index t = ![t.val, 0] ∧ win0_20.index t = ![t.val / 16, 0, t.val % 16] ∧
    win0_23.index t = ![t.val, 0] ∧ win0_24.index t = ![t.val, 0] := by
  decide +kernel

theorem t_lt (t : Fin cfg0.N) : t.val < 128 := Nat.lt_of_lt_of_eq t.isLt (by decide)

/-- The row of a block's row. -/
def rowOf (t : Fin cfg0.N) (r : Fin 256) : Fin 32768 := ⟨256 * t.val + r.val, by have := t_lt t; omega⟩

theorem step_eq (t : Fin cfg0.N) (r : Fin 256) : step (rowOf t r) = ⟨256 * (t.val % 16) + r.val, by omega⟩ := by
  unfold step rowOf
  exact Fin.ext (by dsimp only; omega)

theorem batch_eq (t : Fin cfg0.N) (r : Fin 256) : batch (rowOf t r) = ⟨t.val / 16, by have := t_lt t; omega⟩ := by
  unfold batch rowOf
  exact Fin.ext (by dsimp only; omega)

theorem blk_x (c : Dev nD) (t : Fin cfg0.N) (r : Fin 256) (k : Fin 1024) :
    iblk m c 0 t (ix2 r k) = m ((c : Thread nD τ).loc main_arg0) (ix3 (batch (rowOf t r)) (step (rowOf t r)) k) := by
  have e : iblk m c 0 t (ix2 r k) = V m c main_v52 (ix2 (rowOf t r) k) := by
    unfold rowOf
    blk_ext [iblk, (idx_in t).1]
  rw [e]
  simp only [V, hostOps0, hostOps0_1, hostOps0_2, hostOps0_3, hostOps0_4, hostOps0_5, hostOps0_6, List.flatten_cons, List.flatten_nil, List.append_nil, List.cons_append, List.nil_append]
  entry_read
  pointwise
  rfl

theorem blk_g (c : Dev nD) (t : Fin cfg0.N) (k : Fin 1024) :
    iblk m c 1 t (ix2 0 k) = m ((c : Thread nD τ).loc main_arg1) (ix1 k) := by
  have e : iblk m c 1 t (ix2 0 k) = V m c main_v11 (ix2 0 k) := by blk_ext [iblk, (idx_in t).2.1]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem blk_w (c : Dev nD) (t : Fin cfg0.N) (k : Fin 1024) (j : Fin 3072) :
    iblk m c 2 t (ix2 k j) = m ((c : Thread nD τ).loc main_arg2) (ix2 k ⟨j.val, by omega⟩) := by
  have e : iblk m c 2 t (ix2 k j) = V m c main_v13 (ix2 k j) := by blk_ext [iblk, (idx_in t).2.2.1]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem blk_wk (c : Dev nD) (t : Fin cfg0.N) (k : Fin 1024) (j : Fin 128) (h : j.val < 72) :
    iblk m c 3 t (ix2 k j) = m ((c : Thread nD τ).loc main_arg2) (ix2 k ⟨3072 + j.val, by omega⟩) := by
  have e : iblk m c 3 t (ix2 k j) = V m c main_v14 (ix2 k j) := by blk_ext [iblk, (idx_in t).2.2.2.1]
  rw [e]
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  exact dif_pos h

theorem blk_wg (c : Dev nD) (t : Fin cfg0.N) (k : Fin 1024) (j : Fin 2048) :
    iblk m c 4 t (ix2 k j) = m ((c : Thread nD τ).loc main_arg2) (ix2 k ⟨3144 + j.val, by omega⟩) := by
  have e : iblk m c 4 t (ix2 k j) = V m c main_v16 (ix2 k j) := by blk_ext [iblk, (idx_in t).2.2.2.2.1]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem blk_cos (c : Dev nD) (t : Fin cfg0.N) (r : Fin 256) (l : Fin 128) :
    iblk m c 5 t (ix2 r l) = if l.val % 64 < 32 then (Ideal.cos (angle (step (rowOf t r)).val (l.val % 64)) : EReal)
      else (Ideal.cos (angle (step (rowOf t r)).val (l.val % 64 - 32)) : EReal) := by
  have e : iblk m c 5 t (ix2 r l) = V m c main_v48 (ix2 (step (rowOf t r)) l) := by
    rw [step_eq]
    blk_ext [iblk, (idx_in t).2.2.2.2.2.1]
  rw [e]
  simp only [V, hostOps0, hostOps0_1, hostOps0_2, hostOps0_3, hostOps0_4, hostOps0_5, hostOps0_6, List.flatten_cons, List.flatten_nil, List.append_nil, List.cons_append, List.nil_append]
  entry_read
  pointwise
  rfl

theorem blk_sin (c : Dev nD) (t : Fin cfg0.N) (r : Fin 256) (l : Fin 128) :
    iblk m c 6 t (ix2 r l) = if l.val % 64 < 32 then (-Ideal.sin (angle (step (rowOf t r)).val (l.val % 64)) : EReal)
      else (Ideal.sin (angle (step (rowOf t r)).val (l.val % 64 - 32)) : EReal) := by
  have e : iblk m c 6 t (ix2 r l) = V m c main_v51 (ix2 (step (rowOf t r)) l) := by
    rw [step_eq]
    blk_ext [iblk, (idx_in t).2.2.2.2.2.2.1]
  rw [e]
  simp only [V, hostOps0, hostOps0_1, hostOps0_2, hostOps0_3, hostOps0_4, hostOps0_5, hostOps0_6, List.flatten_cons, List.flatten_nil, List.append_nil, List.cons_append, List.nil_append]
  entry_read
  pointwise
  rfl

theorem blk_kg (c : Dev nD) (t : Fin cfg0.N) (j : Fin 512) :
    iblk m c 8 t (ix2 0 j) = m ((c : Thread nD τ).loc main_arg4) (ix1 ⟨j.val % 64, Nat.mod_lt _ (by decide)⟩) := by
  have e : iblk m c 8 t (ix2 0 j) = V m c main_v24 (ix2 0 j) := by blk_ext [iblk, (idx_in t).2.2.2.2.2.2.2.1]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem blk_kig (c : Dev nD) (t : Fin cfg0.N) (j : Fin 128) (h : j.val < 64) :
    iblk m c 9 t (ix2 0 j) = m ((c : Thread nD τ).loc main_arg5) (ix1 ⟨j.val, h⟩) := by
  have e : iblk m c 9 t (ix2 0 j) = V m c main_v26 (ix2 0 j) := by blk_ext [iblk, (idx_in t).2.2.2.2.2.2.2.2.1]
  rw [e]
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  exact dif_pos h

theorem same_word : ∀ a b : Fin 8, IntOp.cmpi .eq (BitVec.ofNat 32 a.val) (BitVec.ofNat 32 b.val) = if a.val = b.val then 1#1 else 0#1 := by
  decide

theorem same_val (a b : ℕ) (ha : a < 8) (hb : b < 8) :
    IntOp.cmpi .eq (BitVec.ofNat 32 a) (BitVec.ofNat 32 b) = if a = b then 1#1 else 0#1 := same_word ⟨a, ha⟩ ⟨b, hb⟩

theorem blk_bd (c : Dev nD) (t : Fin cfg0.N) (i j : Fin 512) :
    iblk m c 10 t (ix2 i j) = if i.val / 64 = j.val / 64 then (Ideal.ofBits .f32 0x3C800000#32 : EReal) else (0 : EReal) := by
  have e : iblk m c 10 t (ix2 i j) = V m c main_v10 (ix2 i j) := by blk_ext [iblk, (idx_in t).2.2.2.2.2.2.2.2.2]
  rw [e]
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [same_val _ _ (by omega) (by omega)]
  split_ifs
  · rfl
  · rfl

/-- A projected entry of a block's row is one of the row it is. -/
theorem dot_eq (c : Dev nD) (t : Fin cfg0.N) (r : Fin 256) (u : Fin 1024 → EReal) (j : Fin 5192)
    (hu : ∀ k, u k = m ((c : Thread nD τ).loc main_arg2) (ix2 k j)) :
    dot (iblk m c 0 t) (iblk m c 1 t) r u = entry (m ((c : Thread nD τ).loc main_arg0)) (m ((c : Thread nD τ).loc main_arg1)) (m ((c : Thread nD τ).loc main_arg2)) (batch (rowOf t r)) (step (rowOf t r)) j := by
  unfold dot entry
  obtain rfl : u = fun k => m ((c : Thread nD τ).loc main_arg2) (ix2 k j) := funext hu
  simp only [blk_x, blk_g]

theorem rot_eq {n : ℕ} (hn : 64 ∣ n) (u : Fin n → EReal) (s : ℕ) (c : Fin n) (v : Fin 64 → EReal)
    (hv : ∀ (d : Fin 64) (e : Fin n), e.val = 64 * (c.val / 64) + d.val → u e = v d) :
    turned hn u (if c.val % 128 % 64 < 32 then Ideal.cos (angle s (c.val % 128 % 64)) else Ideal.cos (angle s (c.val % 128 % 64 - 32)))
      (if c.val % 128 % 64 < 32 then -Ideal.sin (angle s (c.val % 128 % 64)) else Ideal.sin (angle s (c.val % 128 % 64 - 32))) c
    = rot v s ⟨c.val % 64, Nat.mod_lt _ (by decide)⟩ := by
  have hm : c.val % 128 % 64 = c.val % 64 := Nat.mod_mod_of_dvd _ (by decide)
  unfold turned rot
  rw [hm, hv ⟨c.val % 64, Nat.mod_lt _ (by decide)⟩ c (by dsimp only; omega)]
  by_cases h : c.val % 64 < 32
  · rw [if_pos h, if_pos h, if_pos h, hv ⟨(c.val % 64 + 32) % 64, Nat.mod_lt _ (by decide)⟩ (partner hn c)
      (by unfold partner; dsimp only; rw [if_pos h]; omega), mul_neg, ← sub_eq_add_neg]
  · rw [if_neg h, if_neg h, if_neg h, hv ⟨c.val % 64 - 32, by omega⟩ (partner hn c)
      (by unfold partner; dsimp only; rw [if_neg h]; omega)]

theorem xr_eq (c : Dev nD) : (dats m 0 c).arrAt 11 cfg0.N = rows (m ((c : Thread nD τ).loc main_arg0)) (m ((c : Thread nD τ).loc main_arg1)) (m ((c : Thread nD τ).loc main_arg2)) 512 0 (by decide) := by
  refine (dats m 0 c).arrAt_eq_of_covers 11 _ (by decide +kernel) fun t hf y => ?_
  have ht := t_lt t
  blk_simp
  rw [after0_11]
  obtain ⟨r, j, rfl⟩ : ∃ (r : Fin 256) (j : Fin 512), y = ix2 r j := ⟨y 0, y 1, eq_ix2 y⟩
  have e : (win0_11.blk t).view.emb (ix2 r j) = ix2 (rowOf t r) j := by
    unfold rowOf
    blk_ext [(idx_out t).1]
  refine (out11_apply _ _ _ _ _ _ _ _ _ _ _ r j).trans ?_
  refine Eq.trans ?_ (congrArg _ e.symm)
  refine (dot_eq m c t r _ ⟨j.val, by omega⟩ fun k => blk_w m c t k _).trans ?_
  unfold rows
  exact congrArg _ (Fin.ext (Nat.zero_add _).symm)
theorem gr_eq (c : Dev nD) : (dats m 0 c).arrAt 12 cfg0.N = rows (m ((c : Thread nD τ).loc main_arg0)) (m ((c : Thread nD τ).loc main_arg1)) (m ((c : Thread nD τ).loc main_arg2)) 512 512 (by decide) := by
  refine (dats m 0 c).arrAt_eq_of_covers 12 _ (by decide +kernel) fun t hf y => ?_
  have ht := t_lt t
  blk_simp
  rw [after0_12]
  obtain ⟨r, j, rfl⟩ : ∃ (r : Fin 256) (j : Fin 512), y = ix2 r j := ⟨y 0, y 1, eq_ix2 y⟩
  have e : (win0_12.blk t).view.emb (ix2 r j) = ix2 (rowOf t r) j := by
    unfold rowOf
    blk_ext [(idx_out t).2.1]
  refine (out12_apply _ _ _ _ _ _ _ _ _ _ _ r j).trans ?_
  refine Eq.trans ?_ (congrArg _ e.symm)
  exact dot_eq m c t r _ _ fun k => blk_w m c t k _
theorem v_eq (c : Dev nD) : (dats m 0 c).arrAt 16 cfg0.N = values (m ((c : Thread nD τ).loc main_arg0)) (m ((c : Thread nD τ).loc main_arg1)) (m ((c : Thread nD τ).loc main_arg2)) := by
  refine (dats m 0 c).arrAt_eq_of_covers 16 _ (by decide +kernel) fun t hf y => ?_
  have ht := t_lt t
  blk_simp
  rw [after0_16]
  obtain ⟨z, j, r, rfl⟩ : ∃ (z : Fin 1) (j : Fin 512) (r : Fin 256), y = ix3 z j r := ⟨y 0, y 1, y 2, eq_ix3 y⟩
  obtain rfl : z = 0 := Subsingleton.elim _ _
  have e : (win0_16.blk t).view.emb (ix3 0 j r) = ix3 (batch (rowOf t r)) j (step (rowOf t r)) := by
    rw [batch_eq, step_eq]
    blk_ext [(idx_out t).2.2.2.1]
  refine (out16_apply _ _ _ _ _ _ _ _ _ _ _ r j).trans ?_
  refine Eq.trans ?_ (congrArg _ e.symm)
  exact dot_eq m c t r _ _ fun k => blk_w m c t k _
theorem ga_eq (c : Dev nD) : (dats m 0 c).arrAt 23 cfg0.N = rows (m ((c : Thread nD τ).loc main_arg0)) (m ((c : Thread nD τ).loc main_arg1)) (m ((c : Thread nD τ).loc main_arg2)) 1024 3144 (by decide) := by
  refine (dats m 0 c).arrAt_eq_of_covers 23 _ (by decide +kernel) fun t hf y => ?_
  have ht := t_lt t
  blk_simp
  rw [after0_23]
  obtain ⟨r, j, rfl⟩ : ∃ (r : Fin 256) (j : Fin 1024), y = ix2 r j := ⟨y 0, y 1, eq_ix2 y⟩
  have e : (win0_23.blk t).view.emb (ix2 r j) = ix2 (rowOf t r) j := by
    unfold rowOf
    blk_ext [(idx_out t).2.2.2.2.2.2.1]
  refine (out23_apply _ _ _ _ _ _ _ _ _ _ _ r j).trans ?_
  refine Eq.trans ?_ (congrArg _ e.symm)
  exact dot_eq m c t r _ _ fun k => blk_wg m c t k _
theorem gb_eq (c : Dev nD) : (dats m 0 c).arrAt 24 cfg0.N = rows (m ((c : Thread nD τ).loc main_arg0)) (m ((c : Thread nD τ).loc main_arg1)) (m ((c : Thread nD τ).loc main_arg2)) 1024 4168 (by decide) := by
  refine (dats m 0 c).arrAt_eq_of_covers 24 _ (by decide +kernel) fun t hf y => ?_
  have ht := t_lt t
  blk_simp
  rw [after0_24]
  obtain ⟨r, j, rfl⟩ : ∃ (r : Fin 256) (j : Fin 1024), y = ix2 r j := ⟨y 0, y 1, eq_ix2 y⟩
  have e : (win0_24.blk t).view.emb (ix2 r j) = ix2 (rowOf t r) j := by
    unfold rowOf
    blk_ext [(idx_out t).2.2.2.2.2.2.2]
  refine (out24_apply _ _ _ _ _ _ _ _ _ _ _ r j).trans ?_
  refine Eq.trans ?_ (congrArg _ e.symm)
  refine dot_eq m c t r _ ⟨4168 + j.val, by omega⟩ fun k => (blk_wg m c t k _).trans (congrArg _ (congrArg _ (Fin.ext ?_)))
  dsimp only
  omega
theorem qi_eq (c : Dev nD) : (dats m 0 c).arrAt 19 cfg0.N = asks (m ((c : Thread nD τ).loc main_arg0)) (m ((c : Thread nD τ).loc main_arg1)) (m ((c : Thread nD τ).loc main_arg2)) := by
  refine (dats m 0 c).arrAt_eq_of_covers 19 _ (by decide +kernel) fun t hf y => ?_
  have ht := t_lt t
  blk_simp
  rw [after0_19]
  obtain ⟨r, j, rfl⟩ : ∃ (r : Fin 256) (j : Fin 512), y = ix2 r j := ⟨y 0, y 1, eq_ix2 y⟩
  have e : (win0_19.blk t).view.emb (ix2 r j) = ix2 (rowOf t r) j := by
    unfold rowOf
    blk_ext [(idx_out t).2.2.2.2.1]
  refine (out19_apply _ _ _ _ _ _ _ _ _ _ _ r j).trans ?_
  refine Eq.trans ?_ (congrArg _ e.symm)
  rw [blk_cos, blk_sin]
  refine rot_eq _ _ _ _ _ fun d e he => ?_
  exact dot_eq m c t r _ _ fun k => (blk_w m c t k _).trans (congrArg _ (congrArg _ (Fin.ext (congrArg (2560 + ·) he))))
theorem ki_eq (c : Dev nD) : (dats m 0 c).arrAt 20 cfg0.N = keys (m ((c : Thread nD τ).loc main_arg0)) (m ((c : Thread nD τ).loc main_arg1)) (m ((c : Thread nD τ).loc main_arg2)) (m ((c : Thread nD τ).loc main_arg5)) := by
  refine (dats m 0 c).arrAt_eq_of_covers 20 _ (by decide +kernel) fun t hf y => ?_
  have ht := t_lt t
  blk_simp
  rw [after0_20]
  obtain ⟨z, j, r, rfl⟩ : ∃ (z : Fin 1) (j : Fin 64) (r : Fin 256), y = ix3 z j r := ⟨y 0, y 1, y 2, eq_ix3 y⟩
  obtain rfl : z = 0 := Subsingleton.elim _ _
  have e : (win0_20.blk t).view.emb (ix3 0 j r) = ix3 (batch (rowOf t r)) j (step (rowOf t r)) := by
    rw [batch_eq, step_eq]
    blk_ext [(idx_out t).2.2.2.2.2.1]
  refine (out20_apply _ _ _ _ _ _ _ _ _ _ _ r j).trans ?_
  refine Eq.trans ?_ (congrArg _ e.symm)
  rw [blk_cos, blk_sin]
  refine (rot_eq (n := 128) _ _ (step (rowOf t r)).val ⟨j.val, by omega⟩
    (headed (fun d => entry (m ((c : Thread nD τ).loc main_arg0)) (m ((c : Thread nD τ).loc main_arg1)) (m ((c : Thread nD τ).loc main_arg2)) (batch (rowOf t r)) (step (rowOf t r)) ⟨3072 + d.val, by omega⟩) (fun d => (m ((c : Thread nD τ).loc main_arg5)) (ix1 d))) fun d e he => ?_).trans ?_
  · have hw : ∀ l : Fin 128, l.val < 72 → dot (iblk m c 0 t) (iblk m c 1 t) r (fun k => iblk m c 3 t (ix2 k l))
        = entry (m ((c : Thread nD τ).loc main_arg0)) (m ((c : Thread nD τ).loc main_arg1)) (m ((c : Thread nD τ).loc main_arg2)) (batch (rowOf t r)) (step (rowOf t r)) ⟨3072 + l.val, by omega⟩ := fun l hl =>
      dot_eq m c t r _ _ fun k => blk_wk m c t k l hl
    have hd : e = ⟨d.val, by omega⟩ := Fin.ext (by dsimp only at he ⊢; omega)
    unfold headed
    rw [hd, hw _ (by dsimp only; omega), blk_kig m c t _ d.isLt, div_64]
    have hs : ∀ x : Fin 64, dot (iblk m c 0 t) (iblk m c 1 t) r (fun k => iblk m c 3 t (ix2 k ⟨x.val, by omega⟩))
        = entry (m ((c : Thread nD τ).loc main_arg0)) (m ((c : Thread nD τ).loc main_arg1)) (m ((c : Thread nD τ).loc main_arg2)) (batch (rowOf t r)) (step (rowOf t r))
          ⟨3072 + x.val, by omega⟩ := fun x => hw _ (by dsimp only; omega)
    simp only [hs]
  · exact congrArg _ (Fin.ext (Nat.mod_eq_of_lt j.isLt))
end Cert.Kernel3Ideal.Block

end
-- ==== Proof.ProjRef.lean ====
module

public import proofs.«01_k».proof.Proof.ProjSpec
public import proofs.«01_k».proof.Proof.Gen.Reference3Ideal.Run

/-! The result arrays of the projection's reference: each is the plain result of Proof/ProjSpec.lean. -/

@[expose] public section

set_option maxRecDepth 16384

noncomputable section

open Idealize.ShloMosaic Idealize.ShloMosaic.TcCoe Idealize.ShloMosaic.Tactic Cert.Proj Cert.Pure

namespace Cert.Reference3Ideal.Row

open Cert.Reference3Ideal Cert.Reference3Ideal.Gen

/-! The reference's stages, as array operations. -/

section
variable (x : (⟨S8x4096x1024, .f32⟩ : BufTy).Contents (Elt Ideal)) (g : (⟨S1024, .f32⟩ : BufTy).Contents (Elt Ideal))
  (w : (⟨S1024x5192, .f32⟩ : BufTy).Contents (Elt Ideal)) (h : (⟨S64, .f32⟩ : BufTy).Contents (Elt Ideal))

/-- The normalised rows. -/
def norms : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The projected rows. -/
def projected : FVec Ideal S8x4096x5192 .f32 :=
  Host.dotGeneral (φ₂ := .f32) dot_S8x4096x1024_S1024x5192_S8x4096x5192_2_0_01_1_n_n none (norms x g) w

/-- The angles of the steps and the frequencies. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

/-- The index heads that ask, before they are turned. -/
def asking (z : FVec Ideal S8x4096x5192 .f32) : FVec Ideal S8x4096x8x64 .f32 :=
  shapeCast _ (extractStridedSlice S8x4096x512 ![0, 0, 2560] z slices_S8x4096x5192_S8x4096x512_0_0_2560) shapeCasts_S8x4096x512_S8x4096x8x64

/-- The index key, normalised, as one head. -/
def keyed (z : FVec Ideal S8x4096x64 .f32) : FVec Ideal S8x4096x1x64 .f32 :=
  broadcastInDim S8x4096x1x64 ![0, 1, 3] bcast_S8x4096x64_S8x4096x1x64_0_1_3
    (mulf (mulf z (broadcastInDim S8x4096x64 ![0, 1, 2] bcast_S8x4096x1_S8x4096x64_0_1_2
      (Host.rsqrt (addf (Host.divf (broadcastInDim S8x4096x1 ![0, 1] bcast_S8x4096_S8x4096x1_0_1
          (Host.reduceAdd (mulf z z) (constant S_ .f32 0x00000000#32) reducesTo_S8x4096x64_S8x4096_d2 h_S_))
        (broadcastInDim S8x4096x1 ![] bcast_S_S8x4096x1 (constant S_ .f32 0x42800000#32)))
        (broadcastInDim S8x4096x1 ![] bcast_S_S8x4096x1 (constant S_ .f32 0x358637BD#32))))))
    (broadcastInDim S8x4096x64 ![0, 1, 2] bcast_S1x1x64_S8x4096x64_0_1_2 (broadcastInDim S1x1x64 ![2] bcast_S64_S1x1x64_2 h)))

/-- The steps' cosines or sines, over the batch rows and one head. -/
def over1 (a : FVec Ideal S4096x32 .f32) : FVec Ideal S8x4096x1x32 .f32 :=
  broadcastInDim S8x4096x1x32 ![0, 1, 2, 3] bcast_S1x4096x1x32_S8x4096x1x32_0_1_2_3 (broadcastInDim S1x4096x1x32 ![1, 3] bcast_S4096x32_S1x4096x1x32_1_3 a)

/-- The steps' cosines or sines, over the batch rows and eight heads. -/
def over8 (a : FVec Ideal S4096x32 .f32) : FVec Ideal S8x4096x8x32 .f32 :=
  broadcastInDim S8x4096x8x32 ![0, 1, 2, 3] bcast_S1x4096x1x32_S8x4096x8x32_0_1_2_3 (broadcastInDim S1x4096x1x32 ![1, 3] bcast_S4096x32_S1x4096x1x32_1_3 a)

/-- The turned head, of one. -/
def turn1 (u : FVec Ideal S8x4096x1x64 .f32) : FVec Ideal S8x4096x1x64 .f32 :=
  concatenate S8x4096x1x64 3
    [⟨S8x4096x1x32, subf (mulf (extractStridedSlice S8x4096x1x32 ![0, 0, 0, 0] u slices_S8x4096x1x64_S8x4096x1x32_0_0_0_0) (over1 (Host.cos angles)))
      (mulf (extractStridedSlice S8x4096x1x32 ![0, 0, 0, 32] u slices_S8x4096x1x64_S8x4096x1x32_0_0_0_32) (over1 (Host.sin angles)))⟩,
     ⟨S8x4096x1x32, addf (mulf (extractStridedSlice S8x4096x1x32 ![0, 0, 0, 32] u slices_S8x4096x1x64_S8x4096x1x32_0_0_0_32) (over1 (Host.cos angles)))
      (mulf (extractStridedSlice S8x4096x1x32 ![0, 0, 0, 0] u slices_S8x4096x1x64_S8x4096x1x32_0_0_0_0) (over1 (Host.sin angles)))⟩] concatenates_S8x4096x1x32_S8x4096x1x32_S8x4096x1x64_d3

/-- The turned heads, of eight. -/
def turn8 (u : FVec Ideal S8x4096x8x64 .f32) : FVec Ideal S8x4096x8x64 .f32 :=
  concatenate S8x4096x8x64 3
    [⟨S8x4096x8x32, subf (mulf (extractStridedSlice S8x4096x8x32 ![0, 0, 0, 0] u slices_S8x4096x8x64_S8x4096x8x32_0_0_0_0) (over8 (Host.cos angles)))
      (mulf (extractStridedSlice S8x4096x8x32 ![0, 0, 0, 32] u slices_S8x4096x8x64_S8x4096x8x32_0_0_0_32) (over8 (Host.sin angles)))⟩,
     ⟨S8x4096x8x32, addf (mulf (extractStridedSlice S8x4096x8x32 ![0, 0, 0, 32] u slices_S8x4096x8x64_S8x4096x8x32_0_0_0_32) (over8 (Host.cos angles)))
      (mulf (extractStridedSlice S8x4096x8x32 ![0, 0, 0, 0] u slices_S8x4096x8x64_S8x4096x8x32_0_0_0_0) (over8 (Host.sin angles)))⟩] concatenates_S8x4096x8x32_S8x4096x8x32_S8x4096x8x64_d3

theorem norms_apply (b : Fin 8) (s : Fin 4096) (j : Fin 1024) :
    norms x g (ix3 b s j) = Merge.normed (fun k => x (ix3 b s k)) (fun k => g (ix1 k)) j := by
  unfold norms
  pointwise
  rfl

theorem projected_apply (b : Fin 8) (s : Fin 4096) (j : Fin 5192) : projected x g w (ix3 b s j) = entry x g w b s j := by
  unfold projected
  pointwise
  simp only [norms_apply]
  rfl

theorem angles_apply (s : Fin 4096) (i : Fin 32) : angles (ix2 s i) = angle s.val i.val := by
  unfold angles
  pointwise
  rfl

theorem over1_apply (a : FVec Ideal S4096x32 .f32) (b : Fin 8) (s : Fin 4096) (q : Fin 1) (i : Fin 32) : over1 a (ix4 b s q i) = a (ix2 s i) := by
  unfold over1
  pointwise

theorem over8_apply (a : FVec Ideal S4096x32 .f32) (b : Fin 8) (s : Fin 4096) (q : Fin 8) (i : Fin 32) : over8 a (ix4 b s q i) = a (ix2 s i) := by
  unfold over8
  pointwise

theorem cos_apply (s : Fin 4096) (i : Fin 32) : Host.cos angles (ix2 s i) = Ideal.cos (angle s.val i.val) := by
  rw [← angles_apply]
  rfl

theorem sin_apply (s : Fin 4096) (i : Fin 32) : Host.sin angles (ix2 s i) = Ideal.sin (angle s.val i.val) := by
  rw [← angles_apply]
  rfl

theorem asking_apply (z : FVec Ideal S8x4096x5192 .f32) (b : Fin 8) (s : Fin 4096) (q : Fin 8) (d : Fin 64) :
    asking z (ix4 b s q d) = z (ix3 b s ⟨2560 + (64 * q.val + d.val), by omega⟩) := by
  unfold asking
  pointwise
  exact congrArg z (congrArg (ix3 b s) (Fin.ext (by dsimp only; omega)))

theorem keyed_apply (z : FVec Ideal S8x4096x64 .f32) (b : Fin 8) (s : Fin 4096) (q : Fin 1) (d : Fin 64) :
    keyed h z (ix4 b s q d) = headed (fun k => z (ix3 b s k)) (fun k => h (ix1 k)) d := by
  unfold keyed
  pointwise
  rfl

theorem turn1_apply (u : FVec Ideal S8x4096x1x64 .f32) (b : Fin 8) (s : Fin 4096) (q : Fin 1) (d : Fin 64) :
    turn1 u (ix4 b s q d) = rot (fun k => u (ix4 b s q k)) s.val d := by
  obtain rfl : q = 0 := Subsingleton.elim _ _
  unfold turn1 rot
  pointwise
  by_cases hd : d.val < 32
  · have e : (⟨32 + d.val, by omega⟩ : Fin 64) = ⟨(d.val + 32) % 64, Nat.mod_lt _ (by decide)⟩ := Fin.ext (by dsimp only; omega)
    rw [dif_pos hd, if_pos hd, over1_apply, over1_apply, cos_apply, sin_apply, e]
  · have e : (⟨32 + (d.val - 32), by omega⟩ : Fin 64) = d := Fin.ext (by dsimp only; omega)
    rw [dif_neg hd, if_neg hd, over1_apply, over1_apply, cos_apply, sin_apply, e]

theorem turn8_apply (u : FVec Ideal S8x4096x8x64 .f32) (b : Fin 8) (s : Fin 4096) (q : Fin 8) (d : Fin 64) :
    turn8 u (ix4 b s q d) = rot (fun k => u (ix4 b s q k)) s.val d := by
  unfold turn8 rot
  pointwise
  by_cases hd : d.val < 32
  · have e : (⟨32 + d.val, by omega⟩ : Fin 64) = ⟨(d.val + 32) % 64, Nat.mod_lt _ (by decide)⟩ := Fin.ext (by dsimp only; omega)
    rw [dif_pos hd, if_pos hd, over8_apply, over8_apply, cos_apply, sin_apply, e]
  · have e : (⟨32 + (d.val - 32), by omega⟩ : Fin 64) = d := Fin.ext (by dsimp only; omega)
    rw [dif_neg hd, if_neg hd, over8_apply, over8_apply, cos_apply, sin_apply, e]

end

section
variable (m : (ℓ : Loc nD τ sig) → Buf (Elt Ideal) ℓ) (c : Dev nD)

/-- The projected rows of the launched arrays. -/
abbrev zz : FVec Ideal S8x4096x5192 .f32 :=
  projected (m ((c.tc : Thread nD τ).loc main_arg0)) (m ((c.tc : Thread nD τ).loc main_arg1)) (m ((c.tc : Thread nD τ).loc main_arg2))

theorem zz_apply (b : Fin 8) (s : Fin 4096) (j : Fin 5192) : zz m c (ix3 b s j) = entry (m ((c.tc : Thread nD τ).loc main_arg0)) (m ((c.tc : Thread nD τ).loc main_arg1)) (m ((c.tc : Thread nD τ).loc main_arg2)) b s j := projected_apply _ _ _ b s j

set_option maxHeartbeats 1000000 in
theorem staged_asks : Value.res_out3 m c = truncf .bf16 (shapeCast S32768x512 (turn8 (asking (zz m c))) shapeCasts_S8x4096x8x64_S32768x512) bitsLt_bf16_f32 := rfl

set_option maxHeartbeats 1000000 in
theorem staged_keys : Value.res_out4 m c = transpose S8x64x4096 [0, 2, 1] (shapeCast S8x4096x64 (turn1 (keyed (m ((c.tc : Thread nD τ).loc main_arg5))
    (extractStridedSlice S8x4096x64 ![0, 0, 3072] (zz m c) slices_S8x4096x5192_S8x4096x64_0_0_3072))) shapeCasts_S8x4096x1x64_S8x4096x64) transposes_S8x4096x64_S8x64x4096_0_2_1 := rfl

theorem xr_eq : shapeCast S32768x512 (extractStridedSlice S8x4096x512 ![0, 0, 0] (zz m c) slices_S8x4096x5192_S8x4096x512_0_0_0)
    shapeCasts_S8x4096x512_S32768x512 = rows (m ((c.tc : Thread nD τ).loc main_arg0)) (m ((c.tc : Thread nD τ).loc main_arg1)) (m ((c.tc : Thread nD τ).loc main_arg2)) 512 0 (by decide) := by
  funext i
  obtain ⟨n, j, rfl⟩ : ∃ (n : Fin 32768) (j : Fin 512), i = ix2 n j := ⟨i 0, i 1, eq_ix2 i⟩
  generalize hz : zz m c = z
  pointwise
  rw [← hz]
  exact (zz_apply m c _ _ _).trans (congrArg _ (Fin.ext (Nat.zero_add _).symm))

theorem gr_eq : shapeCast S32768x512 (extractStridedSlice S8x4096x512 ![0, 0, 512] (zz m c) slices_S8x4096x5192_S8x4096x512_0_0_512)
    shapeCasts_S8x4096x512_S32768x512 = rows (m ((c.tc : Thread nD τ).loc main_arg0)) (m ((c.tc : Thread nD τ).loc main_arg1)) (m ((c.tc : Thread nD τ).loc main_arg2)) 512 512 (by decide) := by
  funext i
  obtain ⟨n, j, rfl⟩ : ∃ (n : Fin 32768) (j : Fin 512), i = ix2 n j := ⟨i 0, i 1, eq_ix2 i⟩
  generalize hz : zz m c = z
  pointwise
  rw [← hz]
  exact zz_apply m c _ _ _

theorem ga_eq : shapeCast S32768x1024 (extractStridedSlice S8x4096x1024 ![0, 0, 3144] (zz m c) slices_S8x4096x5192_S8x4096x1024_0_0_3144)
    shapeCasts_S8x4096x1024_S32768x1024 = rows (m ((c.tc : Thread nD τ).loc main_arg0)) (m ((c.tc : Thread nD τ).loc main_arg1)) (m ((c.tc : Thread nD τ).loc main_arg2)) 1024 3144 (by decide) := by
  funext i
  obtain ⟨n, j, rfl⟩ : ∃ (n : Fin 32768) (j : Fin 1024), i = ix2 n j := ⟨i 0, i 1, eq_ix2 i⟩
  generalize hz : zz m c = z
  pointwise
  rw [← hz]
  exact zz_apply m c _ _ _

theorem gb_eq : shapeCast S32768x1024 (extractStridedSlice S8x4096x1024 ![0, 0, 4168] (zz m c) slices_S8x4096x5192_S8x4096x1024_0_0_4168)
    shapeCasts_S8x4096x1024_S32768x1024 = rows (m ((c.tc : Thread nD τ).loc main_arg0)) (m ((c.tc : Thread nD τ).loc main_arg1)) (m ((c.tc : Thread nD τ).loc main_arg2)) 1024 4168 (by decide) := by
  funext i
  obtain ⟨n, j, rfl⟩ : ∃ (n : Fin 32768) (j : Fin 1024), i = ix2 n j := ⟨i 0, i 1, eq_ix2 i⟩
  generalize hz : zz m c = z
  pointwise
  rw [← hz]
  exact zz_apply m c _ _ _

theorem v_eq : transpose S8x512x4096 [0, 2, 1] (extractStridedSlice S8x4096x512 ![0, 0, 2048] (zz m c) slices_S8x4096x5192_S8x4096x512_0_0_2048)
    transposes_S8x4096x512_S8x512x4096_0_2_1 = values (m ((c.tc : Thread nD τ).loc main_arg0)) (m ((c.tc : Thread nD τ).loc main_arg1)) (m ((c.tc : Thread nD τ).loc main_arg2)) := by
  funext i
  obtain ⟨b, j, s, rfl⟩ : ∃ (b : Fin 8) (j : Fin 512) (s : Fin 4096), i = ix3 b j s := ⟨i 0, i 1, i 2, eq_ix3 i⟩
  generalize hz : zz m c = z
  pointwise
  rw [← hz]
  exact zz_apply m c _ _ _

theorem qi_eq : Value.res_out3 m c = asks (m ((c.tc : Thread nD τ).loc main_arg0)) (m ((c.tc : Thread nD τ).loc main_arg1)) (m ((c.tc : Thread nD τ).loc main_arg2)) := by
  funext i
  obtain ⟨n, j, rfl⟩ : ∃ (n : Fin 32768) (j : Fin 512), i = ix2 n j := ⟨i 0, i 1, eq_ix2 i⟩
  rw [staged_asks]
  generalize hz : zz m c = z
  pointwise
  rw [turn8_apply]
  simp only [asking_apply]
  rw [← hz]
  simp only [projected_apply]
  rfl

theorem ki_eq : Value.res_out4 m c = keys (m ((c.tc : Thread nD τ).loc main_arg0)) (m ((c.tc : Thread nD τ).loc main_arg1)) (m ((c.tc : Thread nD τ).loc main_arg2)) (m ((c.tc : Thread nD τ).loc main_arg5)) := by
  funext i
  obtain ⟨b, d, s, rfl⟩ : ∃ (b : Fin 8) (d : Fin 64) (s : Fin 4096), i = ix3 b d s := ⟨i 0, i 1, i 2, eq_ix3 i⟩
  rw [staged_keys]
  generalize hz : zz m c = z
  pointwise
  rw [turn1_apply]
  simp only [keyed_apply]
  rw [← hz]
  pointwise
  simp only [projected_apply]
  rfl

end

end Cert.Reference3Ideal.Row

end
-- ==== Proof.ProjClaims.lean ====
module

public import proofs.«01_k».proof.Defs
public import proofs.«01_k».proof.Proof.ProjValue
public import proofs.«01_k».proof.Proof.ProjRef

/-! The claim that the projection's results are its reference's. -/

@[expose] public section

noncomputable section

namespace Cert.Kernel3Ideal.Block

open Idealize.ShloMosaic Idealize.ShloMosaic.TcCoe Idealize.SL.Sem Cert.Kernel3Ideal.Gen

variable {F : FTy → Type} [FloatOps F] (m : (ℓ : Loc nD τ sig) → Buf (Elt F) ℓ) (ρ : Dev nD → PrngReg)

/-! No window stages an argument, and the run leaves them as they were. -/

theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

set_option maxHeartbeats 4000000 in
/-- The run, with the results named. -/
theorem run_results : θ_run defs (onTc (τ := τ) (main (F := F))) ⟨m, fun _ => 0, ρ⟩ fun r => ∀ c : Dev nD,
      r.2.mem ((c : Thread nD τ).loc main_v53_0) = (dats m 0 c).arrAt 11 cfg0.N
      ∧ r.2.mem ((c : Thread nD τ).loc main_v53_1) = (dats m 0 c).arrAt 12 cfg0.N
      ∧ r.2.mem ((c : Thread nD τ).loc main_v53_5) = (dats m 0 c).arrAt 16 cfg0.N
      ∧ r.2.mem ((c : Thread nD τ).loc main_v53_8) = (dats m 0 c).arrAt 19 cfg0.N
      ∧ r.2.mem ((c : Thread nD τ).loc main_v53_9) = (dats m 0 c).arrAt 20 cfg0.N
      ∧ r.2.mem ((c : Thread nD τ).loc main_v53_12) = (dats m 0 c).arrAt 23 cfg0.N
      ∧ r.2.mem ((c : Thread nD τ).loc main_v53_13) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 11, (h c).1 12, (h c).1 16, (h c).1 19, (h c).1 20, (h c).1 23, (h c).1 24, kept_arg0 m r h c, kept_arg1 m r h c, kept_arg2 m r h c, kept_arg3 m r h c, kept_arg4 m r h c, kept_arg5 m r h c⟩) (run_main m ρ)

end Cert.Kernel3Ideal.Block

namespace Cert.Proof

open Idealize.ShloMosaic Idealize.ShloMosaic.TcCoe Idealize.SL.Sem

set_option maxHeartbeats 8000000 in
theorem algebraic3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 16 Cert.Kernel3Ideal.cfg0.N,
    fun c => (Cert.Kernel3Ideal.Gen.dats m 0 c).arrAt 19 Cert.Kernel3Ideal.cfg0.N,
    fun c => (Cert.Kernel3Ideal.Gen.dats m 0 c).arrAt 20 Cert.Kernel3Ideal.cfg0.N,
    fun c => (Cert.Kernel3Ideal.Gen.dats m 0 c).arrAt 23 Cert.Kernel3Ideal.cfg0.N,
    fun c => (Cert.Kernel3Ideal.Gen.dats m 0 c).arrAt 24 Cert.Kernel3Ideal.cfg0.N, ?_, ?_⟩
  · exact Cert.Kernel3Ideal.Block.run_results (F := Ideal) m ρ
  · refine (θ_run Cert.Reference3Ideal.defs _ _).mono (fun r h c => ?_) (Cert.Reference3Ideal.Value.run (F := Ideal) m' ρ')
    obtain ⟨a0, a1, a2, a3, a4, a5⟩ := hargs c
    obtain ⟨hxr, hgr, hv, hqi, hki, hga, hgb, hrest⟩ := h c
    refine ⟨hxr.trans ((Cert.Reference3Ideal.Row.xr_eq m' c).trans ?_), hgr.trans ((Cert.Reference3Ideal.Row.gr_eq m' c).trans ?_), hv.trans ((Cert.Reference3Ideal.Row.v_eq m' c).trans ?_), hqi.trans ((Cert.Reference3Ideal.Row.qi_eq m' c).trans ?_), hki.trans ((Cert.Reference3Ideal.Row.ki_eq m' c).trans ?_), hga.trans ((Cert.Reference3Ideal.Row.ga_eq m' c).trans ?_), hgb.trans ((Cert.Reference3Ideal.Row.gb_eq m' c).trans ?_), hrest⟩
    · rw [a0, a1, a2]
      exact (Cert.Kernel3Ideal.Block.xr_eq m c).symm
    · rw [a0, a1, a2]
      exact (Cert.Kernel3Ideal.Block.gr_eq m c).symm
    · rw [a0, a1, a2]
      exact (Cert.Kernel3Ideal.Block.v_eq m c).symm
    · rw [a0, a1, a2]
      exact (Cert.Kernel3Ideal.Block.qi_eq m c).symm
    · rw [a0, a1, a2, a5]
      exact (Cert.Kernel3Ideal.Block.ki_eq m c).symm
    · rw [a0, a1, a2]
      exact (Cert.Kernel3Ideal.Block.ga_eq m c).symm
    · rw [a0, a1, a2]
      exact (Cert.Kernel3Ideal.Block.gb_eq m c).symm

end Cert.Proof

end
-- ==== Proof.lean ====
module

public import proofs.«01_k».proof.Defs
public import proofs.«01_k».proof.Proof.SeqClaims
public import proofs.«01_k».proof.Proof.MergeClaims
public import proofs.«01_k».proof.Proof.ProjFrames
public import proofs.«01_k».proof.Proof.ProjClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernelIdeal, frame_referenceIdeal, frame_kernel2, frame_kernel2Ideal, frame_reference2Ideal,
  frame_kernel3, frame_kernel3Ideal, frame_reference3Ideal, trivial, algebraic, trivial, algebraic2, trivial, algebraic3⟩

end Cert.Proof

end
